-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S2048x512 : Shape := ⟨2, ![2048, 512]⟩
abbrev S576x512 : Shape := ⟨2, ![576, 512]⟩
abbrev S18 : Shape := ⟨1, ![18]⟩
abbrev S14 : Shape := ⟨1, ![14]⟩
abbrev S_ : Shape := ⟨0, ![]⟩
abbrev S448x512 : Shape := ⟨2, ![448, 512]⟩
abbrev S128x512 : Shape := ⟨2, ![128, 512]⟩
abbrev S1 : Shape := ⟨1, ![1]⟩
abbrev S32x512 : Shape := ⟨2, ![32, 512]⟩
abbrev S1024x512 : Shape := ⟨2, ![1024, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S2048x512, .bf16⟩
  | .local _ .vmem, ⟨0, _⟩ => ⟨S1024x1024, .bf16⟩
  | .local _ .vmem, ⟨1, _⟩ => ⟨S2048x512, .bf16⟩
  | .local _ .vmem, ⟨2, _⟩ => ⟨S576x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c448_i32 : BitVec 32 := 448#32
  let v24 : BitVec 32 := Scalar.muli v2 c448_i32
  let v26 : Index := Scalar.indexCast v24
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32 : BitVec 32 := 512#32
  let v25 : BitVec 32 := Scalar.muli v9 c512_i32
  let v27 : Index := Scalar.indexCast v25
  ![v26.toNat, v27.toNat]
def k0_off2 (d0 : Dev nD) : Fin 2 → Nat :=
  let c896 : Index := 896#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32_14 : BitVec 32 := 512#32
  let v33 : BitVec 32 := Scalar.muli v9 c512_i32_14
  let v34 : Index := Scalar.indexCast v33
  ![896, v34.toNat]
def k0_off3 (d0 : Dev nD) (c0_i32_18 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v42 : BitVec 32 := Scalar.muli v5 c1024_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c448_i32_17 : BitVec 32 := 448#32
  let v40 : BitVec 32 := Scalar.muli v2 c448_i32_17
  let v41 : BitVec 32 := Scalar.addi v40 c0_i32_18
  let v43 : BitVec 32 := Scalar.addi v42 v41
  let c0_i32_25 : BitVec 32 := 0#32
  ![v43.toNat, 0]
def k0_dev3 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v44 : BitVec 32 := Scalar.muli v2 c8_i32_21
  let v45 : BitVec 32 := Scalar.addi c0_i32_22 v44
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_23 : BitVec 32 := 4#32
  let v46 : BitVec 32 := Scalar.muli v9 c4_i32_23
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v48 : BitVec 32 := Scalar.muli v8 c1_i32_24
  let v49 : BitVec 32 := Scalar.addi v47 v48
  v49.toNat
def k0_dev4 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v60 : BitVec 32 := Scalar.muli v2 c8_i32_32
  let v61 : BitVec 32 := Scalar.addi c0_i32_33 v60
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_34 : BitVec 32 := 4#32
  let v62 : BitVec 32 := Scalar.muli v9 c4_i32_34
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v64 : BitVec 32 := Scalar.muli v8 c1_i32_35
  let v65 : BitVec 32 := Scalar.addi v63 v64
  v65.toNat
def k0_dev5 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v76 : BitVec 32 := Scalar.muli v2 c8_i32_43
  let v77 : BitVec 32 := Scalar.addi c0_i32_44 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_45 : BitVec 32 := 4#32
  let v78 : BitVec 32 := Scalar.muli v9 c4_i32_45
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v80 : BitVec 32 := Scalar.muli v8 c1_i32_46
  let v81 : BitVec 32 := Scalar.addi v79 v80
  v81.toNat
def k0_dev6 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v92 : BitVec 32 := Scalar.muli v2 c8_i32_53
  let v93 : BitVec 32 := Scalar.addi c0_i32_54 v92
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_55 : BitVec 32 := 4#32
  let v94 : BitVec 32 := Scalar.muli v9 c4_i32_55
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v96 : BitVec 32 := Scalar.muli v8 c1_i32_56
  let v97 : BitVec 32 := Scalar.addi v95 v96
  v97.toNat
def k0_dev7 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v108 : BitVec 32 := Scalar.muli v2 c8_i32_64
  let v109 : BitVec 32 := Scalar.addi c0_i32_65 v108
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_66 : BitVec 32 := 4#32
  let v110 : BitVec 32 := Scalar.muli v9 c4_i32_66
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v112 : BitVec 32 := Scalar.muli v8 c1_i32_67
  let v113 : BitVec 32 := Scalar.addi v111 v112
  v113.toNat
def k0_dev8 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v124 : BitVec 32 := Scalar.muli v2 c8_i32_74
  let v125 : BitVec 32 := Scalar.addi c0_i32_75 v124
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_76 : BitVec 32 := 4#32
  let v126 : BitVec 32 := Scalar.muli v9 c4_i32_76
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v128 : BitVec 32 := Scalar.muli v8 c1_i32_77
  let v129 : BitVec 32 := Scalar.addi v127 v128
  v129.toNat
def k0_dev9 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v140 : BitVec 32 := Scalar.muli v2 c8_i32_84
  let v141 : BitVec 32 := Scalar.addi c0_i32_85 v140
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_86 : BitVec 32 := 4#32
  let v142 : BitVec 32 := Scalar.muli v9 c4_i32_86
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v144 : BitVec 32 := Scalar.muli v8 c1_i32_87
  let v145 : BitVec 32 := Scalar.addi v143 v144
  v145.toNat
def k0_dev10 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v156 : BitVec 32 := Scalar.muli v2 c8_i32_94
  let v157 : BitVec 32 := Scalar.addi c0_i32_95 v156
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_96 : BitVec 32 := 4#32
  let v158 : BitVec 32 := Scalar.muli v9 c4_i32_96
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v160 : BitVec 32 := Scalar.muli v8 c1_i32_97
  let v161 : BitVec 32 := Scalar.addi v159 v160
  v161.toNat
def k0_dev11 (d0 : Dev nD) : Nat :=
  let c0_i32_106 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_105 : BitVec 32 := 8#32
  let v172 : BitVec 32 := Scalar.muli v2 c8_i32_105
  let v173 : BitVec 32 := Scalar.addi c0_i32_106 v172
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_107 : BitVec 32 := 4#32
  let v174 : BitVec 32 := Scalar.muli v9 c4_i32_107
  let v175 : BitVec 32 := Scalar.addi v173 v174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v176 : BitVec 32 := Scalar.muli v8 c1_i32_108
  let v177 : BitVec 32 := Scalar.addi v175 v176
  v177.toNat
def k0_dev12 (d0 : Dev nD) : Nat :=
  let c0_i32_116 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_115 : BitVec 32 := 8#32
  let v188 : BitVec 32 := Scalar.muli v2 c8_i32_115
  let v189 : BitVec 32 := Scalar.addi c0_i32_116 v188
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_117 : BitVec 32 := 4#32
  let v190 : BitVec 32 := Scalar.muli v9 c4_i32_117
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v192 : BitVec 32 := Scalar.muli v8 c1_i32_118
  let v193 : BitVec 32 := Scalar.addi v191 v192
  v193.toNat
def k0_dev13 (d0 : Dev nD) : Nat :=
  let c0_i32_126 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_125 : BitVec 32 := 8#32
  let v204 : BitVec 32 := Scalar.muli v2 c8_i32_125
  let v205 : BitVec 32 := Scalar.addi c0_i32_126 v204
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_127 : BitVec 32 := 4#32
  let v206 : BitVec 32 := Scalar.muli v9 c4_i32_127
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v208 : BitVec 32 := Scalar.muli v8 c1_i32_128
  let v209 : BitVec 32 := Scalar.addi v207 v208
  v209.toNat
def k0_dev14 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_135 : BitVec 32 := 8#32
  let v220 : BitVec 32 := Scalar.muli v2 c8_i32_135
  let v221 : BitVec 32 := Scalar.addi c0_i32_136 v220
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_137 : BitVec 32 := 4#32
  let v222 : BitVec 32 := Scalar.muli v9 c4_i32_137
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v224 : BitVec 32 := Scalar.muli v8 c1_i32_138
  let v225 : BitVec 32 := Scalar.addi v223 v224
  v225.toNat
def k0_dev15 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v236 : BitVec 32 := Scalar.muli v2 c8_i32_145
  let v237 : BitVec 32 := Scalar.addi c0_i32_146 v236
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_147 : BitVec 32 := 4#32
  let v238 : BitVec 32 := Scalar.muli v9 c4_i32_147
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v240 : BitVec 32 := Scalar.muli v8 c1_i32_148
  let v241 : BitVec 32 := Scalar.addi v239 v240
  v241.toNat
def k0_dev16 (d0 : Dev nD) : Nat :=
  let c0_i32_156 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_155 : BitVec 32 := 8#32
  let v252 : BitVec 32 := Scalar.muli v2 c8_i32_155
  let v253 : BitVec 32 := Scalar.addi c0_i32_156 v252
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_157 : BitVec 32 := 4#32
  let v254 : BitVec 32 := Scalar.muli v9 c4_i32_157
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v256 : BitVec 32 := Scalar.muli v8 c1_i32_158
  let v257 : BitVec 32 := Scalar.addi v255 v256
  v257.toNat
def k0_off4 (d0 : Dev nD) (c896_i32 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_162 : BitVec 32 := 1024#32
  let v264 : BitVec 32 := Scalar.muli v5 c1024_i32_162
  let v265 : BitVec 32 := Scalar.addi v264 c896_i32
  let c0_i32_168 : BitVec 32 := 0#32
  ![v265.toNat, 0]
def k0_dev17 (d0 : Dev nD) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_164 : BitVec 32 := 8#32
  let v266 : BitVec 32 := Scalar.muli v2 c8_i32_164
  let v267 : BitVec 32 := Scalar.addi c0_i32_165 v266
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_166 : BitVec 32 := 4#32
  let v268 : BitVec 32 := Scalar.muli v9 c4_i32_166
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v270 : BitVec 32 := Scalar.muli v8 c1_i32_167
  let v271 : BitVec 32 := Scalar.addi v269 v270
  v271.toNat
def k0_dev18 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v280 : BitVec 32 := Scalar.muli v2 c8_i32_173
  let v281 : BitVec 32 := Scalar.addi c0_i32_174 v280
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_175 : BitVec 32 := 4#32
  let v282 : BitVec 32 := Scalar.muli v9 c4_i32_175
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v284 : BitVec 32 := Scalar.muli v8 c1_i32_176
  let v285 : BitVec 32 := Scalar.addi v283 v284
  v285.toNat
def k0_dev19 (d0 : Dev nD) : Nat :=
  let c0_i32_182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_181 : BitVec 32 := 8#32
  let v294 : BitVec 32 := Scalar.muli v2 c8_i32_181
  let v295 : BitVec 32 := Scalar.addi c0_i32_182 v294
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_183 : BitVec 32 := 4#32
  let v296 : BitVec 32 := Scalar.muli v9 c4_i32_183
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v298 : BitVec 32 := Scalar.muli v8 c1_i32_184
  let v299 : BitVec 32 := Scalar.addi v297 v298
  v299.toNat
def k0_dev20 (d0 : Dev nD) : Nat :=
  let c0_i32_191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_190 : BitVec 32 := 8#32
  let v308 : BitVec 32 := Scalar.muli v2 c8_i32_190
  let v309 : BitVec 32 := Scalar.addi c0_i32_191 v308
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_192 : BitVec 32 := 4#32
  let v310 : BitVec 32 := Scalar.muli v9 c4_i32_192
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v312 : BitVec 32 := Scalar.muli v8 c1_i32_193
  let v313 : BitVec 32 := Scalar.addi v311 v312
  v313.toNat
def k0_off5 (d0 : Dev nD) : Fin 2 → Nat :=
  let c0_197 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_196 : BitVec 32 := 512#32
  let v320 : BitVec 32 := Scalar.muli v5 c512_i32_196
  let v321 : Index := Scalar.indexCast v320
  ![0, v321.toNat]
def k0_off6 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_198 : BitVec 32 := 1024#32
  let v324 : BitVec 32 := Scalar.muli v5 c1024_i32_198
  let v325 : Index := Scalar.indexCast v324
  let c0_199 : Index := 0#32
  ![v325.toNat, 0]
def k0_off7 (d0 : Dev nD) (c0_i32_211 : BitVec 32) : Fin 2 → Nat :=
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_209 : BitVec 32 := 1024#32
  let v337 : BitVec 32 := Scalar.muli v9 c1024_i32_209
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c448_i32_210 : BitVec 32 := 448#32
  let v338 : BitVec 32 := Scalar.muli v2 c448_i32_210
  let v339 : BitVec 32 := Scalar.addi v337 v338
  let v340 : BitVec 32 := Scalar.addi v339 c0_i32_211
  let c0_i32_218 : BitVec 32 := 0#32
  ![v340.toNat, 0]
def k0_dev21 (d0 : Dev nD) : Nat :=
  let c0_i32_215 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_214 : BitVec 32 := 8#32
  let v341 : BitVec 32 := Scalar.muli v10 c8_i32_214
  let v342 : BitVec 32 := Scalar.addi c0_i32_215 v341
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_216 : BitVec 32 := 4#32
  let v343 : BitVec 32 := Scalar.muli v5 c4_i32_216
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_217 : BitVec 32 := 1#32
  let v345 : BitVec 32 := Scalar.muli v8 c1_i32_217
  let v346 : BitVec 32 := Scalar.addi v344 v345
  v346.toNat
def k0_dev22 (d0 : Dev nD) : Nat :=
  let c0_i32_235 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_234 : BitVec 32 := 8#32
  let v367 : BitVec 32 := Scalar.muli v10 c8_i32_234
  let v368 : BitVec 32 := Scalar.addi c0_i32_235 v367
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_236 : BitVec 32 := 4#32
  let v369 : BitVec 32 := Scalar.muli v5 c4_i32_236
  let v370 : BitVec 32 := Scalar.addi v368 v369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v371 : BitVec 32 := Scalar.muli v8 c1_i32_237
  let v372 : BitVec 32 := Scalar.addi v370 v371
  v372.toNat
def k0_dev23 (d0 : Dev nD) : Nat :=
  let c0_i32_255 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_254 : BitVec 32 := 8#32
  let v393 : BitVec 32 := Scalar.muli v10 c8_i32_254
  let v394 : BitVec 32 := Scalar.addi c0_i32_255 v393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_256 : BitVec 32 := 4#32
  let v395 : BitVec 32 := Scalar.muli v5 c4_i32_256
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v397 : BitVec 32 := Scalar.muli v8 c1_i32_257
  let v398 : BitVec 32 := Scalar.addi v396 v397
  v398.toNat
def k0_dev24 (d0 : Dev nD) : Nat :=
  let c0_i32_275 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_274 : BitVec 32 := 8#32
  let v419 : BitVec 32 := Scalar.muli v10 c8_i32_274
  let v420 : BitVec 32 := Scalar.addi c0_i32_275 v419
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v421 : BitVec 32 := Scalar.muli v5 c4_i32_276
  let v422 : BitVec 32 := Scalar.addi v420 v421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v423 : BitVec 32 := Scalar.muli v8 c1_i32_277
  let v424 : BitVec 32 := Scalar.addi v422 v423
  v424.toNat
def k0_dev25 (d0 : Dev nD) : Nat :=
  let c0_i32_295 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_294 : BitVec 32 := 8#32
  let v445 : BitVec 32 := Scalar.muli v10 c8_i32_294
  let v446 : BitVec 32 := Scalar.addi c0_i32_295 v445
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_296 : BitVec 32 := 4#32
  let v447 : BitVec 32 := Scalar.muli v5 c4_i32_296
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v449 : BitVec 32 := Scalar.muli v8 c1_i32_297
  let v450 : BitVec 32 := Scalar.addi v448 v449
  v450.toNat
def k0_dev26 (d0 : Dev nD) : Nat :=
  let c0_i32_315 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_314 : BitVec 32 := 8#32
  let v471 : BitVec 32 := Scalar.muli v10 c8_i32_314
  let v472 : BitVec 32 := Scalar.addi c0_i32_315 v471
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_316 : BitVec 32 := 4#32
  let v473 : BitVec 32 := Scalar.muli v5 c4_i32_316
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v475 : BitVec 32 := Scalar.muli v8 c1_i32_317
  let v476 : BitVec 32 := Scalar.addi v474 v475
  v476.toNat
def k0_dev27 (d0 : Dev nD) : Nat :=
  let c0_i32_335 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_334 : BitVec 32 := 8#32
  let v497 : BitVec 32 := Scalar.muli v10 c8_i32_334
  let v498 : BitVec 32 := Scalar.addi c0_i32_335 v497
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_336 : BitVec 32 := 4#32
  let v499 : BitVec 32 := Scalar.muli v5 c4_i32_336
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_337 : BitVec 32 := 1#32
  let v501 : BitVec 32 := Scalar.muli v8 c1_i32_337
  let v502 : BitVec 32 := Scalar.addi v500 v501
  v502.toNat
def k0_dev28 (d0 : Dev nD) : Nat :=
  let c0_i32_355 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_354 : BitVec 32 := 8#32
  let v523 : BitVec 32 := Scalar.muli v10 c8_i32_354
  let v524 : BitVec 32 := Scalar.addi c0_i32_355 v523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v525 : BitVec 32 := Scalar.muli v5 c4_i32_356
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v527 : BitVec 32 := Scalar.muli v8 c1_i32_357
  let v528 : BitVec 32 := Scalar.addi v526 v527
  v528.toNat
def k0_dev29 (d0 : Dev nD) : Nat :=
  let c0_i32_375 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_374 : BitVec 32 := 8#32
  let v549 : BitVec 32 := Scalar.muli v10 c8_i32_374
  let v550 : BitVec 32 := Scalar.addi c0_i32_375 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_376 : BitVec 32 := 4#32
  let v551 : BitVec 32 := Scalar.muli v5 c4_i32_376
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v553 : BitVec 32 := Scalar.muli v8 c1_i32_377
  let v554 : BitVec 32 := Scalar.addi v552 v553
  v554.toNat
def k0_dev30 (d0 : Dev nD) : Nat :=
  let c0_i32_395 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_394 : BitVec 32 := 8#32
  let v575 : BitVec 32 := Scalar.muli v10 c8_i32_394
  let v576 : BitVec 32 := Scalar.addi c0_i32_395 v575
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v577 : BitVec 32 := Scalar.muli v5 c4_i32_396
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_397 : BitVec 32 := 1#32
  let v579 : BitVec 32 := Scalar.muli v8 c1_i32_397
  let v580 : BitVec 32 := Scalar.addi v578 v579
  v580.toNat
def k0_dev31 (d0 : Dev nD) : Nat :=
  let c0_i32_415 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_414 : BitVec 32 := 8#32
  let v601 : BitVec 32 := Scalar.muli v10 c8_i32_414
  let v602 : BitVec 32 := Scalar.addi c0_i32_415 v601
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v603 : BitVec 32 := Scalar.muli v5 c4_i32_416
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v605 : BitVec 32 := Scalar.muli v8 c1_i32_417
  let v606 : BitVec 32 := Scalar.addi v604 v605
  v606.toNat
def k0_dev32 (d0 : Dev nD) : Nat :=
  let c0_i32_435 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_434 : BitVec 32 := 8#32
  let v627 : BitVec 32 := Scalar.muli v10 c8_i32_434
  let v628 : BitVec 32 := Scalar.addi c0_i32_435 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_436 : BitVec 32 := 4#32
  let v629 : BitVec 32 := Scalar.muli v5 c4_i32_436
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v631 : BitVec 32 := Scalar.muli v8 c1_i32_437
  let v632 : BitVec 32 := Scalar.addi v630 v631
  v632.toNat
def k0_dev33 (d0 : Dev nD) : Nat :=
  let c0_i32_455 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_454 : BitVec 32 := 8#32
  let v653 : BitVec 32 := Scalar.muli v10 c8_i32_454
  let v654 : BitVec 32 := Scalar.addi c0_i32_455 v653
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_456 : BitVec 32 := 4#32
  let v655 : BitVec 32 := Scalar.muli v5 c4_i32_456
  let v656 : BitVec 32 := Scalar.addi v654 v655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_457 : BitVec 32 := 1#32
  let v657 : BitVec 32 := Scalar.muli v8 c1_i32_457
  let v658 : BitVec 32 := Scalar.addi v656 v657
  v658.toNat
def k0_dev34 (d0 : Dev nD) : Nat :=
  let c0_i32_475 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_474 : BitVec 32 := 8#32
  let v679 : BitVec 32 := Scalar.muli v10 c8_i32_474
  let v680 : BitVec 32 := Scalar.addi c0_i32_475 v679
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_476 : BitVec 32 := 4#32
  let v681 : BitVec 32 := Scalar.muli v5 c4_i32_476
  let v682 : BitVec 32 := Scalar.addi v680 v681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v683 : BitVec 32 := Scalar.muli v8 c1_i32_477
  let v684 : BitVec 32 := Scalar.addi v682 v683
  v684.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩

abbrev nBuf : Space → Nat
  | .hbm => 1
  | .vmem => 0
  | .smem => 0
  | _ => 0

abbrev bufTy : (tb : Table) → Fin (tcTables nBuf tb) → BufTy
  | .hbm, ⟨0, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Loop.lean ====
/- The kernel's body as a program over loops. The printed body is a straight line of 130 statements; here each of the
   repeated ones is written once, over the index of its block of 32 rows, and the body is the sequence of the loops
   (`body_eq_loop`). -/
module

public import proofs.«01_k».proof.Proof.Gen.KernelIdeal
public import proofs.«01_k».proof.Proof.Gen.KernelIdeal.Skeleton

@[expose] public section

noncomputable section

namespace Cert.Exchange

open Cert.KernelIdeal Cert.KernelIdeal.Gen
open Idealize.ShloMosaic Idealize.SL.Sem

variable {F : FTy → Type} [FloatOps F]

/-! ## The memrefs and the semaphores -/

/-- The staging buffer of `x`, the staging buffer of the result, and the buffer the blocks are sent from. -/
abbrev xM : Memref sig .tc .vmem S1024x1024 .bf16 := Memref.whole cc0_stg0_0
abbrev oM : Memref sig .tc .vmem S2048x512 .bf16 := Memref.whole cc0_stg1_0
abbrev sM : Memref sig .tc .vmem S576x512 .bf16 := Memref.whole cc0_scratch0

theorem inb18 : ∀ k : Fin 18, ∀ a, (![k.val] : Fin 1 → Nat) a + S1.size a ≤ S18.size a := by decide
theorem inb14 : ∀ k : Fin 14, ∀ a, (![k.val] : Fin 1 → Nat) a + S1.size a ≤ S14.size a := by decide
theorem sInb : ∀ k : Fin 18, ∀ a, (![32 * k.val, 0] : Fin 2 → Nat) a + S32x512.size a ≤ S576x512.size a := by decide
theorem sWords : ∀ k : Fin 18, (Rect.unit (s := S576x512) ![32 * k.val, 0] S32x512.size (sInb k)).WholeWords (EltTy.packing .bf16) := by decide

/-- The semaphores of block `k`: of its transfer along `y` at the sender and at the receiver, and of its transfer along
    `x` at the sender and at the receiver. -/
abbrev ysS (k : Fin 18) : DmaSem sig := ((cc0_scratch1.slice (Rect.unit (s := S18) ![k.val] S1.size (inb18 k))).squeeze S_ squeezes_S1_S_).sem
abbrev yrS (k : Fin 18) : DmaSem sig := ((cc0_scratch2.slice (Rect.unit (s := S18) ![k.val] S1.size (inb18 k))).squeeze S_ squeezes_S1_S_).sem
abbrev xsS (k : Fin 14) : DmaSem sig := ((cc0_scratch3.slice (Rect.unit (s := S14) ![k.val] S1.size (inb14 k))).squeeze S_ squeezes_S1_S_).sem
abbrev xrS (k : Fin 14) : DmaSem sig := ((cc0_scratch4.slice (Rect.unit (s := S14) ![k.val] S1.size (inb14 k))).squeeze S_ squeezes_S1_S_).sem
/-- The runtime's barrier semaphore. -/
abbrev barS : Sem sig := (SemArray.scalar (sig.barrier 0 rfl) : Sems sig S_).sem

/-- The 32 rows of the result at `off`, and the `k`-th 32 rows of the buffer the blocks are sent from. -/
abbrev oBlk (off : Fin 2 → Nat) (h : ∀ a, off a + S32x512.size a ≤ S2048x512.size a) : Memref sig .tc .vmem S32x512 .bf16 :=
  oM.slice (Rect.unit (s := S2048x512) off S32x512.size h) (fun _ => rfl)
abbrev sBlk (k : Fin 18) : Memref sig .tc .vmem S32x512 .bf16 :=
  sM.slice (Rect.unit (s := S576x512) ![32 * k.val, 0] S32x512.size (sInb k)) (fun _ => rfl)

/-- The rows of the result at `off` start and end at whole words. -/
abbrev Words (off : Fin 2 → Nat) (h : ∀ a, off a + S32x512.size a ≤ S2048x512.size a) : Prop :=
  (Rect.unit (s := S2048x512) off S32x512.size h).WholeWords (EltTy.packing .bf16)

theorem oExact {off : Fin 2 → Nat} {h : ∀ a, off a + S32x512.size a ≤ S2048x512.size a} (hw : Words off h) : (oBlk off h).view.WordExact :=
  (Memref.isWhole_whole cc0_stg1_0).wordExact_slice rfl _ hw
theorem sExact (k : Fin 18) : (sBlk k).view.WordExact := (Memref.isWhole_whole cc0_scratch0).wordExact_slice rfl _ (sWords k)

/-! ## The statements -/

abbrev P : Type 1 := Prog (TpuEff nD τ sig (Elt F) Λ₀ .tc) PUnit

/-- Block `k` of the send buffer to the rows at `off` of device `n`'s result. -/
abbrev sendY (n : Dev nD) (k : Fin 18) (off : Fin 2 → Nat) (h) (hw : Words off h) : P (F := F) :=
  Prog.lift (.enqueueDma (sBlk k) (.remote (Dev.tc n) (oBlk off h) (.dma (ysS k))) (.dma (yrS k)) (sExact k) (oExact hw) ⟨⟨rfl, Or.inl rfl⟩, trivial⟩)
/-- The rows at `off` of the own result to the same rows of device `n`'s. -/
abbrev sendX (n : Dev nD) (k : Fin 14) (off : Fin 2 → Nat) (h) (hw : Words off h) : P (F := F) :=
  Prog.lift (.enqueueDma (oBlk off h) (.remote (Dev.tc n) (oBlk off h) (.dma (xsS k))) (.dma (xrS k)) (oExact hw) (oExact hw) ⟨⟨rfl, Or.inl rfl⟩, trivial⟩)
/-- The wait for block `k` from along `y`, for its arrival at the other end, and the same two for the transfer along `x`. -/
abbrev waitYR (k : Fin 18) (off : Fin 2 → Nat) (h) (hw : Words off h) : P (F := F) :=
  Prog.lift (.waitDma2 (yrS k) (sBlk k) (oBlk off h) (sExact k) (oExact hw))
abbrev waitYS (k : Fin 18) (off : Fin 2 → Nat) (h) (hw : Words off h) : P (F := F) :=
  Prog.lift (.waitDma2 (ysS k) (oBlk off h) (sBlk k) (oExact hw) (sExact k))
abbrev waitXR (k : Fin 14) (off : Fin 2 → Nat) (h) (hw : Words off h) : P (F := F) :=
  Prog.lift (.waitDma2 (xrS k) (oBlk off h) (oBlk off h) (oExact hw) (oExact hw))
abbrev waitXS (k : Fin 14) (off : Fin 2 → Nat) (h) (hw : Words off h) : P (F := F) :=
  Prog.lift (.waitDma2 (xsS k) (oBlk off h) (oBlk off h) (oExact hw) (oExact hw))

/-- Block `k` of the 14 forwarded ones, and of the 4 that are not, among the 18 sent along `y`. -/
abbrev fwd (k : Fin 14) : Fin 18 := ⟨k.val, by omega⟩
abbrev dup (k : Fin 4) : Fin 18 := ⟨14 + k.val, by omega⟩

/-- A statement per element of a list, in order. -/
def each {ι : Type} : List ι → (ι → P (F := F)) → P (F := F)
  | [], _ => .ret ⟨⟩
  | i :: l, f => f i >>= fun _ => each l f

abbrev l14 : List (Fin 14) := [0, 1, 2, 3, 4, 5, 6, 7, 8, 9, 10, 11, 12, 13]
abbrev l4 : List (Fin 4) := [0, 1, 2, 3]

/-- The device the transfers along `y` go to, and the one those along `x` go to. -/
abbrev yDev (d : Dev nD) : Dev nD := ⟨k0_dev3 d, k0_dev3_lt d⟩
abbrev xDev (d : Dev nD) : Dev nD := ⟨k0_dev21 d, k0_dev21_lt d⟩

/-- The handshake, with the two stores that fill the send buffer. -/
def head (d : Dev nD) : P (F := F) := do
  semSignalWord (⟨k0_dev1 d, k0_dev1_lt d⟩ : Dev nD) barS 1#32
  semSignalWord (⟨k0_dev2 d, k0_dev2_lt d⟩ : Dev nD) barS 1#32
  let v ← Prog.lift (.load xM (Rect.unit (s := S1024x1024) (k0_off1 d) S448x512.size (k0_off1_inb d)).toLoadRect (View.loadsAt_vmem h_S448x512))
  let _ ← Prog.lift (.load sM (Rect.unit (s := S576x512) ![0, 0] S448x512.size inb_S576x512_S448x512_0_0).toLoadRect (View.loadsAt_vmem h_S448x512))
  Prog.lift (.store sM (Rect.unit (s := S576x512) ![0, 0] S448x512.size inb_S576x512_S448x512_0_0) (k0_pay1 v) Finset.univ (View.stores_vmem h_S448x512 ((Memref.isWhole_whole cc0_scratch0).storeExact_slice rfl _ packedbf16_S576x512_S448x512_0_0) (fun _ => rfl)) (.inl rfl))
  let w ← Prog.lift (.load xM (Rect.unit (s := S1024x1024) (k0_off2 d) S128x512.size (k0_off2_inb d)).toLoadRect (View.loadsAt_vmem h_S128x512))
  let _ ← Prog.lift (.load sM (Rect.unit (s := S576x512) ![448, 0] S128x512.size inb_S576x512_S128x512_448_0).toLoadRect (View.loadsAt_vmem h_S128x512))
  Prog.lift (.store sM (Rect.unit (s := S576x512) ![448, 0] S128x512.size inb_S576x512_S128x512_448_0) (k0_pay2 w) Finset.univ (View.stores_vmem h_S128x512 ((Memref.isWhole_whole cc0_scratch0).storeExact_slice rfl _ packedbf16_S576x512_S128x512_448_0) (fun _ => rfl)) (.inl rfl))
  semWaitWord barS 2#32

/-- The store of the own half of the result. -/
def own (d : Dev nD) : P (F := F) := do
  let v ← Prog.lift (.load xM (Rect.unit (s := S1024x1024) (k0_off5 d) S1024x512.size (k0_off5_inb d)).toLoadRect (View.loadsAt_vmem h_S1024x512))
  let _ ← Prog.lift (.load oM (Rect.unit (s := S2048x512) (k0_off6 d) S1024x512.size (k0_off6_inb d)).toLoadRect (View.loadsAt_vmem h_S1024x512))
  Prog.lift (.store oM (Rect.unit (s := S2048x512) (k0_off6 d) S1024x512.size (k0_off6_inb d)) (k0_pay3 v) Finset.univ (View.stores_vmem h_S1024x512 ((Memref.isWhole_whole cc0_stg1_0).storeExact_slice rfl _ (k0_off6_packedbf16 d)) (fun _ => rfl)) (.inl rfl))

/-- The transfers along `y`, -/
abbrev sendF (d : Dev nD) (k : Fin 14) : P (F := F) := sendY (yDev d) (fwd k) (k0_off3 d (BitVec.ofNat 32 (32 * k.val))) (k0_off3_inb d k) (k0_off3_wordsbf16 d k)
abbrev sendD (d : Dev nD) (k : Fin 4) : P (F := F) := sendY (yDev d) (dup k) (k0_off4 d (BitVec.ofNat 32 (896 + 32 * k.val))) (k0_off4_inb d k) (k0_off4_wordsbf16 d k)
/-- what arrives from along `y`, the first 14 blocks forwarded along `x`, -/
abbrev relay (d : Dev nD) (k : Fin 14) : P (F := F) := do
  waitYR (fwd k) (k0_off3 d (BitVec.ofNat 32 (32 * k.val))) (k0_off3_inb d k) (k0_off3_wordsbf16 d k)
  sendX (xDev d) k (k0_off7 d (BitVec.ofNat 32 (32 * k.val))) (k0_off7_inb d k) (k0_off7_wordsbf16 d k)
abbrev takeD (d : Dev nD) (k : Fin 4) : P (F := F) := waitYR (dup k) (k0_off4 d (BitVec.ofNat 32 (896 + 32 * k.val))) (k0_off4_inb d k) (k0_off4_wordsbf16 d k)
/-- what arrives from along `x`, -/
abbrev takeX (d : Dev nD) (k : Fin 14) : P (F := F) := waitXR k (k0_off7 d (BitVec.ofNat 32 (32 * k.val))) (k0_off7_inb d k) (k0_off7_wordsbf16 d k)
/-- and that all of the own transfers have arrived. -/
abbrev doneF (d : Dev nD) (k : Fin 14) : P (F := F) := waitYS (fwd k) (k0_off3 d (BitVec.ofNat 32 (32 * k.val))) (k0_off3_inb d k) (k0_off3_wordsbf16 d k)
abbrev doneD (d : Dev nD) (k : Fin 4) : P (F := F) := waitYS (dup k) (k0_off4 d (BitVec.ofNat 32 (896 + 32 * k.val))) (k0_off4_inb d k) (k0_off4_wordsbf16 d k)
abbrev doneX (d : Dev nD) (k : Fin 14) : P (F := F) := waitXS k (k0_off7 d (BitVec.ofNat 32 (32 * k.val))) (k0_off7_inb d k) (k0_off7_wordsbf16 d k)

/-- The body after it has read which device it runs on. -/
def loopAt (d : Dev nD) : P (F := F) := do
  head d
  each l14 (sendF d)
  each l4 (sendD d)
  own d
  each l14 (relay d)
  each l4 (takeD d)
  each l14 (takeX d)
  each l14 (doneF d)
  each l4 (doneD d)
  each l14 (doneX d)

/-- The body. -/
def loop : P (F := F) := do
  let d ← Prog.lift .deviceId
  loopAt d

set_option maxRecDepth 100000 in
set_option maxHeartbeats 4000000 in
/-- The printed body is the loops, unrolled. -/
theorem body_eq_loop : cc0_body (F := F) xM (Memref.isWhole_whole _) oM (Memref.isWhole_whole _) sM (Memref.isWhole_whole _)
    cc0_scratch1 cc0_scratch2 cc0_scratch3 cc0_scratch4 = loop := by
  rfl

end Cert.Exchange

end
-- ==== Proof.Blocks.lean ====
/- Where the blocks lie and what they hold. The devices of the 2 × 2 × 4 mesh and the partner of each along `y` and
   along `x`; the 32 rows of the result each transfer writes, which with the own half make up the result; what the
   result, and the buffer the blocks are sent from, hold at the end. -/
module

public import proofs.«01_k».proof.Proof.Loop
public import Idealize.ShloMosaic.Lib.ViewIndex
public import Idealize.ShloMosaic.Rules.PointsTo

@[expose] public section

noncomputable section

namespace Cert.Exchange

open Cert.KernelIdeal Cert.KernelIdeal.Gen
open Idealize.ShloMosaic Idealize.SL.Sem

variable {F : FTy → Type} [FloatOps F]

/-! ## The mesh -/

/-- The device's coordinates along `x` and along `y`. -/
def xc (c : Dev nD) : ℕ := c.val / 8
def yc (c : Dev nD) : ℕ := c.val / 4 % 2

set_option backward.proofsInPublic true in
/-- The device with the other coordinate along `y`, -/
def yp (c : Dev nD) : Dev nD := ⟨(8 * (c.val / 8) + c.val % 4 + 4) - 4 * ((c.val / 4) % 2), by have := c.isLt; unfold nD at *; omega⟩
set_option backward.proofsInPublic true in
/-- and the one with the other along `x`. -/
def xp (c : Dev nD) : Dev nD := ⟨(4 * ((c.val / 4) % 2) + c.val % 4 + 8) - 8 * (c.val / 8), by have := c.isLt; unfold nD at *; omega⟩

theorem yp_yp (c : Dev nD) : yp (yp c) = c := by revert c; decide
theorem xp_xp (c : Dev nD) : xp (xp c) = c := by revert c; decide
theorem yp_xp (c : Dev nD) : yp (xp c) = xp (yp c) := by revert c; decide
theorem yp_ne (c : Dev nD) : yp c ≠ c := by revert c; decide
theorem xp_ne (c : Dev nD) : xp c ≠ c := by revert c; decide
theorem xp_ne_yp (c : Dev nD) : xp c ≠ yp c := by revert c; decide
theorem xc_lt (c : Dev nD) : xc c < 2 := by revert c; decide
theorem yc_lt (c : Dev nD) : yc c < 2 := by revert c; decide
theorem xc_cases (c : Dev nD) : xc c = 0 ∨ xc c = 1 := by revert c; decide
theorem yc_cases (c : Dev nD) : yc c = 0 ∨ yc c = 1 := by revert c; decide
theorem xc_yp (c : Dev nD) : xc (yp c) = xc c := by revert c; decide
theorem yc_yp (c : Dev nD) : yc (yp c) = 1 - yc c := by revert c; decide
theorem xc_xp (c : Dev nD) : xc (xp c) = 1 - xc c := by revert c; decide
theorem yc_xp (c : Dev nD) : yc (xp c) = yc c := by revert c; decide

/-- The two exchanges as permutations of the devices. -/
def ySwap : Dev nD ≃ Dev nD := ⟨yp, yp, yp_yp, yp_yp⟩
def xSwap : Dev nD ≃ Dev nD := ⟨xp, xp, xp_xp, xp_xp⟩

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem yDev_eq (c : Dev nD) : yDev c = yp c := Fin.ext (k0_dev3_eq c)
theorem xDev_eq (c : Dev nD) : xDev c = xp c := Fin.ext (k0_dev21_eq c)

/-! ## Rows -/

/-- The rows `lo, …, lo + n - 1` of a two-dimensional array. -/
def rows (s : Shape) (hs : 0 < s.rank) (lo n : ℕ) : Finset s.Idx := Finset.univ.filter fun i => lo ≤ (i ⟨0, hs⟩).val ∧ (i ⟨0, hs⟩).val < lo + n

/-- Those of the result, and those of the send buffer. -/
abbrev oRows (lo n : ℕ) : Finset S2048x512.Idx := rows S2048x512 (by decide) lo n
abbrev sRows (lo n : ℕ) : Finset S576x512.Idx := rows S576x512 (by decide) lo n

theorem mem_rows {s : Shape} {hs : 0 < s.rank} {lo n : ℕ} {i : s.Idx} : Iff (i ∈ rows s hs lo n) (lo ≤ (i ⟨0, hs⟩).val ∧ (i ⟨0, hs⟩).val < lo + n) := by
  unfold rows; rw [Finset.mem_filter]; exact ⟨fun h => h.2, fun h => ⟨Finset.mem_univ _, h⟩⟩

theorem rows_disjoint {s : Shape} {hs : 0 < s.rank} {lo n lo' n' : ℕ} (h : lo + n ≤ lo' ∨ lo' + n' ≤ lo) :
    Disjoint (rows s hs lo n) (rows s hs lo' n') := by
  rw [Finset.disjoint_left]; intro i hi hi'
  rw [mem_rows] at hi hi'; omega

/-- A rectangle of whole rows is those rows. -/
theorem set_unit_rows {n w m : ℕ} {off : Fin 2 → ℕ} {lo : ℕ} (ho : off = ![lo, 0]) (h : ∀ a, off a + (![m, w] : Fin 2 → ℕ) a ≤ (⟨2, ![n, w]⟩ : Shape).size a) :
    (Rect.unit (s := ⟨2, ![n, w]⟩) off ![m, w] h).set = rows ⟨2, ![n, w]⟩ Nat.two_pos lo m := by
  subst ho; refine Finset.ext fun i => ?_
  rw [Rect.mem_set_unit, mem_rows]
  constructor
  · intro hi; exact hi 0
  · intro hi a
    fin_cases a
    · exact hi
    · exact ⟨Nat.zero_le _, (by have := (i 1).isLt; show (i 1).val < 0 + w; rw [Nat.zero_add]; exact this)⟩

/-- The block sent along `y` that device `c`'s `x`-coordinate picks: its first row among the 1024 rows of a half. -/
def blkRow (x : ℕ) (k : Fin 18) : ℕ := if k.val < 14 then 448 * x + 32 * k.val else 448 + 32 * k.val

/-- The first row of device `c`'s own half of the result, of the block `k` it receives from along `y`, and of the one from
    along `x`. -/
def ownLo (c : Dev nD) : ℕ := 1024 * yc c
def yLo (c : Dev nD) (k : Fin 18) : ℕ := 1024 * (1 - yc c) + blkRow (xc c) k
def xLo (c : Dev nD) (k : Fin 14) : ℕ := 1024 * (1 - yc c) + 448 * (1 - xc c) + 32 * k.val

abbrev ownSet (c : Dev nD) : Finset S2048x512.Idx := oRows (ownLo c) 1024
abbrev ySet (c : Dev nD) (k : Fin 18) : Finset S2048x512.Idx := oRows (yLo c k) 32
abbrev xSet (c : Dev nD) (k : Fin 14) : Finset S2048x512.Idx := oRows (xLo c k) 32
abbrev sSet (k : Fin 18) : Finset S576x512.Idx := sRows (32 * k.val) 32

theorem off3_eq (c : Dev nD) (k : Fin 14) : k0_off3 c (BitVec.ofNat 32 (32 * k.val)) = ![yLo (yp c) (fwd k), 0] := by
  rw [k0_off3_eq]; unfold yLo blkRow; rw [if_pos k.isLt, yc_yp, xc_yp]
  have := yc_lt c; congr 1; unfold yc xc at *; dsimp only [fwd] at *; omega
theorem off4_eq (c : Dev nD) (k : Fin 4) : k0_off4 c (BitVec.ofNat 32 (896 + 32 * k.val)) = ![yLo (yp c) (dup k), 0] := by
  rw [k0_off4_eq]; unfold yLo blkRow; rw [if_neg (by dsimp only [dup]; omega), yc_yp]
  have := yc_lt c; congr 1; unfold yc at *; dsimp only [dup] at *; omega
theorem off7_eq (c : Dev nD) (k : Fin 14) : k0_off7 c (BitVec.ofNat 32 (32 * k.val)) = ![yLo c (fwd k), 0] := by
  rw [k0_off7_eq]; unfold yLo blkRow; rw [if_pos k.isLt]
  have := yc_lt c; congr 1; unfold yc xc at *; dsimp only [fwd] at *; omega
/-- What is forwarded lies in the same rows at the other end. -/
theorem xLo_xp (c : Dev nD) (k : Fin 14) : xLo (xp c) k = yLo c (fwd k) := by
  unfold xLo yLo blkRow; rw [if_pos k.isLt, yc_xp, xc_xp]
  have := xc_lt c; unfold yc xc at *; dsimp only [fwd] at *; omega

theorem oBlk_set {off : Fin 2 → ℕ} {lo : ℕ} (ho : off = ![lo, 0]) (h) : (oBlk off h).view.set = oRows lo 32 :=
  (View.set_slice_whole cc0_stg1_0 (Rect.unit (s := S2048x512) off S32x512.size h)).trans (set_unit_rows ho h)
theorem sBlk_set (k : Fin 18) : (sBlk k).view.set = sSet k :=
  (View.set_slice_whole cc0_scratch0 (Rect.unit (s := S576x512) ![32 * k.val, 0] S32x512.size (sInb k))).trans (set_unit_rows rfl (sInb k))

/-! ## The pieces make up the whole -/

theorem ySet_disjoint (c : Dev nD) {k k' : Fin 18} (h : k ≠ k') : Disjoint (ySet c k) (ySet c k') := by
  refine rows_disjoint ?_
  have h1 : k.val ≠ k'.val := fun e => h (Fin.ext e)
  have := xc_lt c; unfold yLo blkRow; split <;> split <;> omega
theorem xSet_disjoint (c : Dev nD) {k k' : Fin 14} (h : k ≠ k') : Disjoint (xSet c k) (xSet c k') := by
  refine rows_disjoint ?_
  have h1 : k.val ≠ k'.val := fun e => h (Fin.ext e)
  unfold xLo; omega
theorem sSet_disjoint {k k' : Fin 18} (h : k ≠ k') : Disjoint (sSet k) (sSet k') := by
  refine rows_disjoint ?_
  have h1 : k.val ≠ k'.val := fun e => h (Fin.ext e)
  omega

/-- All the rows that arrive from along `y`, and all that arrive from along `x`. -/
def yAll (c : Dev nD) : Finset S2048x512.Idx := Finset.univ.biUnion (ySet c)
def xAll (c : Dev nD) : Finset S2048x512.Idx := Finset.univ.biUnion (xSet c)

theorem yAll_xAll_disjoint (c : Dev nD) : Disjoint (yAll c) (xAll c) := by
  unfold yAll xAll
  rw [Finset.disjoint_biUnion_left]; intro k _
  rw [Finset.disjoint_biUnion_right]; intro k' _
  refine rows_disjoint ?_
  have := xc_lt c; have := k.isLt; have := k'.isLt; unfold yLo xLo blkRow; split <;> omega

theorem own_arrive_disjoint (c : Dev nD) : Disjoint (ownSet c) (yAll c ∪ xAll c) := by
  have hy := yc_lt c; have hx := xc_lt c
  rw [Finset.disjoint_union_right]; unfold yAll xAll
  constructor
  · rw [Finset.disjoint_biUnion_right]; intro k _
    refine rows_disjoint ?_
    have := k.isLt; unfold ownLo yLo blkRow; split <;> omega
  · rw [Finset.disjoint_biUnion_right]; intro k _
    refine rows_disjoint ?_
    have := k.isLt; unfold ownLo xLo; rcases yc_cases c with h | h <;> rcases xc_cases c with h' | h' <;> omega

/-- Every element of the result lies in the own half, or arrives from along `y`, or from along `x`. -/
theorem result_cover (c : Dev nD) : ownSet c ∪ (yAll c ∪ xAll c) = Finset.univ := by
  refine Finset.eq_univ_of_forall fun i => ?_
  have hy := yc_lt c; have hx := xc_lt c
  have hi : (i 0).val < 2048 := (i 0).isLt
  rw [Finset.mem_union, Finset.mem_union]
  unfold yAll xAll
  rw [Finset.mem_biUnion, Finset.mem_biUnion]
  by_cases h0 : (i 0).val / 1024 = yc c
  · left; rw [mem_rows]; show ownLo c ≤ (i 0).val ∧ (i 0).val < _; unfold ownLo; omega
  right
  have hr : (i 0).val = 1024 * (1 - yc c) + (i 0).val % 1024 := by omega
  by_cases h1 : 896 ≤ (i 0).val % 1024
  · left; refine ⟨⟨14 + ((i 0).val % 1024 - 896) / 32, by omega⟩, Finset.mem_univ _, ?_⟩
    rw [mem_rows]; show yLo c _ ≤ (i 0).val ∧ (i 0).val < _
    unfold yLo blkRow; rw [if_neg (by dsimp only; omega)]; dsimp only; omega
  by_cases h2 : (i 0).val % 1024 / 448 = xc c
  · left; refine ⟨⟨((i 0).val % 1024 - 448 * xc c) / 32, by omega⟩, Finset.mem_univ _, ?_⟩
    rw [mem_rows]; show yLo c _ ≤ (i 0).val ∧ (i 0).val < _
    unfold yLo blkRow; rw [if_pos (by dsimp only; omega)]; dsimp only; omega
  · right; refine ⟨⟨((i 0).val % 1024 - 448 * (1 - xc c)) / 32, by omega⟩, Finset.mem_univ _, ?_⟩
    rw [mem_rows]; show xLo c _ ≤ (i 0).val ∧ (i 0).val < _
    unfold xLo; dsimp only; omega

theorem send_cover : Finset.univ.biUnion sSet = (Finset.univ : Finset S576x512.Idx) := by
  refine Finset.eq_univ_of_forall fun i => ?_
  have hi : (i 0).val < 576 := (i 0).isLt
  rw [Finset.mem_biUnion]
  refine ⟨⟨(i 0).val / 32, by omega⟩, Finset.mem_univ _, ?_⟩
  rw [mem_rows]; show 32 * ((i 0).val / 32) ≤ (i 0).val ∧ (i 0).val < 32 * ((i 0).val / 32) + 32; omega

/-! ## Contents -/

/-- The index of `x` at row `r` and column `j` (both read modulo 1024). -/
def ix (r j : ℕ) : S1024x1024.Idx := fun a => match a with
  | ⟨0, _⟩ => ⟨r % 1024, Nat.mod_lt _ (by decide)⟩
  | ⟨1, _⟩ => ⟨j % 1024, Nat.mod_lt _ (by decide)⟩

/-- The blocks of `x` the devices hold, by device. -/
abbrev Blocks (F : FTy → Type) : Type := Dev nD → S1024x1024.Idx → Elt F .bf16

/-- The device whose block row `r` of device `c`'s result is from: the own half from itself; of the other half, the rows
    forwarded along `x` from the device across both axes, the rest from the device across `y`. -/
def srcOf (c : Dev nD) (r : ℕ) : Dev nD :=
  if r / 1024 = yc c then c else if r % 1024 / 448 = 1 - xc c then yp (xp c) else yp c

/-- What device `c`'s result holds at the end, -/
def outAt (X : Blocks F) (c : Dev nD) : S2048x512.Idx → Elt F .bf16 := fun i => X (srcOf c (i 0).val) (ix (i 0).val (512 * yc c + (i 1).val))
/-- and what it sends along `y`. -/
def sendAt (X : Blocks F) (c : Dev nD) : S576x512.Idx → Elt F .bf16 := fun i =>
  X c (ix (if (i 0).val < 448 then 448 * xc c + (i 0).val else 448 + (i 0).val) (512 * (1 - yc c) + (i 1).val))

/-- Block `k` of what `c` sends along `y` is what its partner's result ends with in the rows it is sent to. -/
theorem sendAt_outAt (X : Blocks F) (c : Dev nD) (k : Fin 18) (i : S576x512.Idx) (j : S2048x512.Idx) (r : ℕ) (hr : r < 32)
    (hi : (i 0).val = 32 * k.val + r) (hj : (j 0).val = yLo (yp c) k + r) (h1 : (i 1).val = (j 1).val) :
    sendAt X c i = outAt X (yp c) j := by
  have hy := yc_lt c; have hx := xc_lt c; have hk := k.isLt
  have hlo : yLo (yp c) k = 1024 * yc c + blkRow (xc c) k := by unfold yLo; rw [yc_yp, xc_yp]; omega
  have hs : srcOf (yp c) (j 0).val = c := by
    unfold srcOf; rw [hj, hlo, yc_yp, xc_yp, if_neg, if_neg, yp_yp] <;> · unfold blkRow; rcases xc_cases c with h | h <;> rcases yc_cases c with h' | h' <;> rw [h, h'] <;> split <;> omega
  have hrow : ix (if (i 0).val < 448 then 448 * xc c + (i 0).val else 448 + (i 0).val) (512 * (1 - yc c) + (i 1).val)
      = ix (j 0).val (512 * yc (yp c) + (j 1).val) := by
    funext a; fin_cases a
    · refine Fin.ext ?_
      show (if (i 0).val < 448 then 448 * xc c + (i 0).val else 448 + (i 0).val) % 1024 = (j 0).val % 1024
      rw [hj, hlo, hi]; unfold blkRow; split <;> split <;> omega
    · refine Fin.ext ?_
      show (512 * (1 - yc c) + (i 1).val) % 1024 = (512 * yc (yp c) + (j 1).val) % 1024
      rw [yc_yp, h1]
  unfold sendAt outAt; rw [hs, hrow]

/-- In the rows forwarded along `x` the results of the two ends agree. -/
theorem outAt_xp (X : Blocks F) (c : Dev nD) (k : Fin 14) (i : S2048x512.Idx) (hi : i ∈ ySet c (fwd k)) :
    outAt X (xp c) i = outAt X c i := by
  have hy := yc_lt c; have hx := xc_lt c; have hk := k.isLt
  rw [mem_rows] at hi
  have hlo : yLo c (fwd k) = 1024 * (1 - yc c) + (448 * xc c + 32 * k.val) := by unfold yLo blkRow; rw [if_pos (show (fwd k).val < 14 from hk)]
  have hi' : yLo c (fwd k) ≤ (i 0).val ∧ (i 0).val < yLo c (fwd k) + 32 := hi
  rw [hlo] at hi'
  have hs : srcOf (xp c) (i 0).val = srcOf c (i 0).val := by
    unfold srcOf; rw [yc_xp, xc_xp, xp_xp]
    rcases xc_cases c with h | h <;> rcases yc_cases c with h' | h' <;> rw [h, h'] at hi' ⊢ <;>
      rw [if_neg (by omega), if_pos (by omega), if_neg (by omega), if_neg (by omega)]
  unfold outAt; rw [hs, yc_xp]

end Cert.Exchange

end
-- ==== Proof.Schedule.lean ====
/- The protocol of the exchange, by semaphore cell. Each device has 65 cells: its barrier cell, and for each of its blocks
   one cell at the sender and one at the receiver. Every cell has one round. A payload says what the wait on the cell
   gives: the barrier cell the rows of the two partners' results that this device is to write; a receiver's cell the rows
   with what arrived in them; a sender's cell the rows that were sent. -/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UX : Type := URounds (GSem nD τ sig) Bool
abbrev UU : Type := UR sig nD τ × UX

local notation "𝕄" => MT nD τ sig Unit (Elt F) ℕ UU ℕ

/-- Where the pipeline's rounds and the exchange's live. -/
abbrev EP : Emb (UR sig nD τ) (MT nD τ sig Unit (Elt F) ℕ UU ℕ) := embL
abbrev EX : Emb UX (MT nD τ sig Unit (Elt F) ℕ UU ℕ) := embR

/-! ## The cells -/

/-- The semaphores of the blocks: along `y` at the sender and at the receiver, along `x` at the sender and at the receiver; -/
abbrev Own : Type := (Fin 18 ⊕ Fin 18) ⊕ (Fin 14 ⊕ Fin 14)
/-- and with the barrier semaphore all that the exchange uses. -/
abbrev All : Type := Unit ⊕ Own

abbrev ys (k : Fin 18) : Own := .inl (.inl k)
abbrev yr (k : Fin 18) : Own := .inl (.inr k)
abbrev xs (k : Fin 14) : Own := .inr (.inl k)
abbrev xr (k : Fin 14) : Own := .inr (.inr k)
abbrev bar : All := .inl ()

def ownSem : Own → SemLoc sig
  | .inl (.inl k) => .dma (ysS k)
  | .inl (.inr k) => .dma (yrS k)
  | .inr (.inl k) => .dma (xsS k)
  | .inr (.inr k) => .dma (xrS k)
def semAt : All → SemLoc sig
  | .inl _ => .reg barS
  | .inr a => ownSem a

/-- Device `c`'s cell of a semaphore. -/
abbrev cell (c : Dev nD) (a : All) : GSem nD τ sig := ((c : Thread nD τ), semAt a)

/-- Which of the exchange's semaphores a semaphore is. -/
def role : SemLoc sig → Option All
  | .reg _ => some bar
  | .dma q =>
    if q.val < 2 then none
    else if h : q.val - 2 < 18 then some (.inr (ys ⟨q.val - 2, h⟩))
    else if h : q.val - 20 < 18 then some (.inr (yr ⟨q.val - 20, h⟩))
    else if h : q.val - 38 < 14 then some (.inr (xs ⟨q.val - 38, h⟩))
    else if h : q.val - 52 < 14 then some (.inr (xr ⟨q.val - 52, h⟩))
    else none

theorem role_semAt (a : All) : role (semAt a) = some a := by
  rcases a with _ | (k | k) | (k | k)
  · rfl
  all_goals revert k; decide

theorem semAt_injective : Function.Injective semAt := fun a b h => by
  have := congrArg role h; rw [role_semAt, role_semAt] at this; exact Option.some.inj this

theorem cell_inj {c c' : Dev nD} {a a' : All} (h : cell c a = cell c' a') : c = c' ∧ a = a' :=
  ⟨congrArg (fun g : GSem nD τ sig => g.1.1) h, semAt_injective (congrArg Prod.snd h)⟩

/-! ## The payloads -/

/-- Rows of device `c`'s result, and rows of its send buffer, at given contents. -/
abbrev oPt (c : Dev nD) (S : Finset S2048x512.Idx) (f : S2048x512.Idx → Elt F .bf16) : sProp 𝕄 :=
  ((c : Thread nD τ).loc cc0_stg1_0) ↦[S]{fullShare} f
abbrev sPt (c : Dev nD) (S : Finset S576x512.Idx) (f : S576x512.Idx → Elt F .bf16) : sProp 𝕄 :=
  ((c : Thread nD τ).loc cc0_scratch0) ↦[S]{fullShare} f

/-- The rows of device `n`'s result that its partner along `y` writes, and those that its partner along `x` writes, at
    some contents. -/
def yRoom (n : Dev nD) : sProp 𝕄 := iprop(∃ f : S2048x512.Idx → Elt F .bf16, bigSep Finset.univ fun k : Fin 18 => oPt n (ySet n k) f)
def xRoom (n : Dev nD) : sProp 𝕄 := iprop(∃ f : S2048x512.Idx → Elt F .bf16, bigSep Finset.univ fun k : Fin 14 => oPt n (xSet n k) f)

variable (X : Blocks F)

/-- What device `c`'s cell hands over. At the barrier `false` is the partner's signal along `y` and `true` the one along `x`. -/
def pay (c : Dev nD) : All → Bool → sProp 𝕄
  | .inl _, d => if d then xRoom (xp c) else yRoom (yp c)
  | .inr (.inl (.inl k)), _ => sPt c (sSet k) (sendAt X c)
  | .inr (.inl (.inr k)), _ => oPt c (ySet c k) (outAt X c)
  | .inr (.inr (.inl k)), _ => oPt c (ySet c (fwd k)) (outAt X c)
  | .inr (.inr (.inr k)), _ => oPt c (xSet c k) (outAt X c)

instance pay_storable (c : Dev nD) (a : All) (d : Bool) : BI.Storable (upEmb : UEmb _ 𝕄) (pay X c a d) := by
  rcases a with _ | (k | k) | (k | k)
  · show BI.Storable upEmb (if d then xRoom (xp c) else yRoom (yp c)); unfold xRoom yRoom; split <;> infer_instance
  all_goals (show BI.Storable upEmb (_ ↦[_]{_} _); infer_instance)

/-! ## The schedule -/

/-- The amount of one transfer. -/
abbrev N : ℕ := (sBlk 0).view.dmaCredit
theorem N_pos : 0 < N := View.dmaCredit_pos _ (by decide)

/-- The payments a semaphore's one round has, and the amount of each. -/
def dutiesOf : Option All → Finset Bool
  | none => ∅
  | some (.inl _) => Finset.univ
  | some (.inr _) => {false}
def amountOf : Option All → ℕ
  | some (.inl _) => 1
  | _ => N

def sched : Rounds.Schedule (GSem nD τ sig) Bool 𝕄 where
  duties g r := if r = 0 ∧ g.1.2 = .tc then dutiesOf (role g.2) else ∅
  unitless _ := False
  amount g _ _ := amountOf (role g.2)
  payload g _ d := match role g.2 with
    | some a => pay X g.1.1 a d
    | none => iprop(emp)
  amount_pos g _ _ _ := by
    rcases role g.2 with _ | _ | _
    · exact N_pos
    · exact Nat.one_pos
    · exact N_pos

instance sched_storable (g : GSem nD τ sig) (r : ℕ) (d : Bool) : BI.Storable (upEmb : UEmb _ 𝕄) ((sched X).payload g r d) := by
  show BI.Storable upEmb (match role g.2 with | some a => pay X g.1.1 a d | none => iprop(emp))
  rcases role g.2 with _ | a <;> dsimp only <;> infer_instance

omit [FloatOps F] in
theorem duties_cell (c : Dev nD) (a : All) : (sched X).duties (cell c a) 0 = dutiesOf (some a) := by
  show (if (0 : ℕ) = 0 ∧ (cell c a).1.2 = .tc then dutiesOf (role (semAt a)) else ∅) = _
  rw [role_semAt]; exact if_pos ⟨rfl, rfl⟩
omit [FloatOps F] in
theorem duties_later (g : GSem nD τ sig) : ∀ r, 1 ≤ r → (sched X).duties g r = ∅ := fun r hr => if_neg fun h => by omega
omit [FloatOps F] in
theorem amount_cell (c : Dev nD) (a : All) (d : Bool) : (sched X).amount (cell c a) 0 d = amountOf (some a) := by
  show amountOf (role (semAt a)) = _; rw [role_semAt]
omit [FloatOps F] in
theorem payload_cell (c : Dev nD) (a : All) (d : Bool) : (sched X).payload (cell c a) 0 d = pay X c a d := by
  show (match role (semAt a) with | some a => pay X c a d | none => iprop(emp)) = _; rw [role_semAt]

omit [FloatOps F] in
theorem expect_bar (c : Dev nD) : (sched X).expect (cell c bar) 0 = 2 := by
  unfold Schedule.expect Schedule.amountOf
  rw [duties_cell, Finset.sum_congr rfl fun d _ => amount_cell X c bar d]; rfl
omit [FloatOps F] in
theorem expect_own (c : Dev nD) (a : Own) : (sched X).expect (cell c (.inr a)) 0 = N := by
  unfold Schedule.expect Schedule.amountOf
  rw [duties_cell, Finset.sum_congr rfl fun d _ => amount_cell X c (.inr a) d]; exact Finset.sum_singleton _ _

omit [FloatOps F] in
/-- All that the wait on a barrier cell hands over, -/
theorem rest_bar (c : Dev nD) :
    bigSep ((sched X).duties (cell c bar) 0 \ ∅) (fun d => (sched X).payload (cell c bar) 0 d) = iprop(yRoom (yp c) ∗ xRoom (xp c)) := by
  rw [Finset.sdiff_empty, duties_cell, bigSep_congr fun d _ => payload_cell X c bar d]
  exact bigSep_univ_eq_bigSepL [false, true] (by decide) (by decide) _
omit [FloatOps F] in
/-- and the one on a block's cell. -/
theorem rest_own (c : Dev nD) (a : Own) :
    bigSep ((sched X).duties (cell c (.inr a)) 0 \ ∅) (fun d => (sched X).payload (cell c (.inr a)) 0 d) = pay X c (.inr a) false := by
  rw [Finset.sdiff_empty, duties_cell, bigSep_congr fun d _ => payload_cell X c (.inr a) d]
  exact bigSep_singleton

/-! ## What is owed, and the levels -/

/-- What is owed to the cells `g i` for the `i` of a list: a transfer each. -/
def due {ι : Type} (g : ι → GSem nD τ sig) (l : List ι) : CellTallies nD τ sig Unit := (l.map fun i => tallyAt (g i) () N).sum

theorem due_nil {ι : Type} (g : ι → GSem nD τ sig) : due g [] = 0 := rfl
theorem due_cons {ι : Type} (g : ι → GSem nD τ sig) (i : ι) (l : List ι) : due g (i :: l) = due g l + tallyAt (g i) () N := by
  unfold due; rw [List.map_cons, List.sum_cons, add_comm]

/-- The cells device `c` pays into with its transfers. -/
abbrev toF (c : Dev nD) (k : Fin 14) : GSem nD τ sig := cell (yp c) (.inr (yr (fwd k)))
abbrev toD (c : Dev nD) (k : Fin 4) : GSem nD τ sig := cell (yp c) (.inr (yr (dup k)))
abbrev toX (c : Dev nD) (k : Fin 14) : GSem nD τ sig := cell (xp c) (.inr (xr k))

/-- What device `c` owes after the handshake, after its first signal, and at launch. -/
def owed₂ (c : Dev nD) : CellTallies nD τ sig Unit := (due (toX c) l14 + due (toD c) l4) + due (toF c) l14
def owed₁ (c : Dev nD) : CellTallies nD τ sig Unit := owed₂ c + tallyAt (cell (xp c) bar) () 1
def owed₀ (c : Dev nD) : CellTallies nD τ sig Unit := owed₁ c + tallyAt (cell (yp c) bar) () 1

def lvl : Option All → ℕ
  | some (.inl _) => 1
  | some (.inr (.inl (.inr _))) => 2
  | some (.inr (.inr (.inr _))) => 3
  | _ => 0
def L (g : GSem nD τ sig) : Finset Unit := if g.1.2 = .tc then {()} else ∅
def lev (g : GSem nD τ sig) (_ : Unit) : ℕ := lvl (role g.2)

theorem L_of_ne (g : GSem nD τ sig) (h : g.1.2 ≠ .tc) : L g = ∅ := if_neg h
theorem lev_cell (c : Dev nD) (a : All) (u : Unit) : lev (cell c a) u = lvl (some a) := by unfold lev; rw [role_semAt]

/-- Everything owed is owed to cells of TensorCores at levels above `n`. -/
def Above (n : ℕ) (O : CellTallies nD τ sig Unit) : Prop := ∀ g u, 0 < O g u → g.1.2 = .tc ∧ n < lev g u

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem above_cell {n : ℕ} {c : Dev nD} {a : All} {k : ℕ} (h : n < lvl (some a)) : Above n (tallyAt (cell c a) () k) := fun g u hp => by
  rw [tallyAt_apply] at hp
  by_cases hg : g = cell c a ∧ u = ()
  · rw [hg.1]; exact ⟨rfl, by rw [lev_cell]; exact h⟩
  · rw [if_neg hg] at hp; exact absurd hp (Nat.lt_irrefl 0)
theorem above_due {n : ℕ} {ι : Type} (c : Dev nD) (a : ι → All) (h : ∀ i, n < lvl (some (a i))) (l : List ι) :
    Above n (due (fun i => cell c (a i)) l) := by
  induction l with
  | nil => exact above_zero n
  | cons i l ih => rw [due_cons]; exact above_add ih (above_cell (h i))

theorem above_toX {n : ℕ} (hn : n < 3) (c : Dev nD) (l : List (Fin 14)) : Above n (due (toX c) l) := above_due (xp c) (fun k => .inr (xr k)) (fun _ => hn) l
theorem above_owed₂ (c : Dev nD) : Above 1 (owed₂ c) :=
  above_add (above_add (above_toX (by decide) c _) (above_due (yp c) (fun k => .inr (yr (dup k))) (fun _ => Nat.lt_succ_self 1) _))
    (above_due (yp c) (fun k => .inr (yr (fwd k))) (fun _ => Nat.lt_succ_self 1) _)
theorem above_owed₀ (c : Dev nD) : Above 0 (owed₀ c) :=
  above_add (above_add (fun g u h => ⟨(above_owed₂ c g u h).1, Nat.lt_of_succ_lt (above_owed₂ c g u h).2⟩)
    (above_cell Nat.one_pos)) (above_cell Nat.one_pos)

/-- That every cell's level is as above. -/
def levelsAt : sProp 𝕄 := levAts L lev

instance levelsAt_persistent : BI.Persistent (levelsAt (F := F)) := by unfold levelsAt; infer_instance

omit [FloatOps F] in
/-- A device may wait on a semaphore whose level is below that of all it owes. -/
theorem levels_mayWait (c : Dev nD) (sm : SemLoc sig) (n : ℕ) (hn : lvl (role sm) ≤ n) {O : CellTallies nD τ sig Unit} (hO : Above n O) :
    (levelsAt : sProp 𝕄) ⊢ MayWait (c : Thread nD τ) sm () O :=
  MayOwe.of_cut (L := L) (lev := lev) n (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.Exchange

end
-- ==== Proof.Moves.lean ====
/- What the transfers and the stores leave in the buffers: a transfer along `y` leaves the receiver's final contents in the
   rows it writes, so does one along `x`; the two stores into the send buffer leave all that is to be sent; the store of
   the own half leaves the final contents there. -/
module

public import proofs.«01_k».proof.Proof.Blocks
public import Idealize.ShloMosaic.Lib.Pointwise.Reshape

@[expose] public section

noncomputable section

namespace Cert.Exchange

open Cert.KernelIdeal Cert.KernelIdeal.Gen
open Idealize.ShloMosaic Idealize.SL.Sem

variable {F : FTy → Type} [FloatOps F]

/-- An index of a two-dimensional array inside a rectangle is the rectangle's own index moved by the offset. -/
theorem in_rect {n w n' w' lo left : ℕ} {off : Fin 2 → ℕ} (ho : off = ![lo, left]) (h : ∀ a, off a + (![n', w'] : Fin 2 → ℕ) a ≤ (⟨2, ![n, w]⟩ : Shape).size a)
    (x : (⟨2, ![n', w']⟩ : Shape).Idx) :
    ((Rect.unit (s := ⟨2, ![n, w]⟩) off ![n', w'] h).emb x 0).val = lo + (x 0).val ∧
      ((Rect.unit (s := ⟨2, ![n, w]⟩) off ![n', w'] h).emb x 1).val = left + (x 1).val := by
  subst ho
  constructor
  · show lo + 1 * (x 0).val = _; rw [Nat.one_mul]
  · show left + 1 * (x 1).val = _; rw [Nat.one_mul]

/-! ## The transfers -/

section Transfer

variable (X : Blocks F) (c : Dev nD) {off : Fin 2 → ℕ} (h : ∀ a, off a + S32x512.size a ≤ S2048x512.size a)

/-- Block `k` of the send buffer, written to the rows of the partner's result, is what that result is to hold there. -/
theorem landed_y (k : Fin 18) (ho : off = ![yLo (yp c) k, 0]) (f : S2048x512.Idx → Elt F .bf16) (i : S2048x512.Idx) (hi : i ∈ ySet (yp c) k) :
    (oBlk off h).view.write (Elt F) f ((sBlk k).view.read (Elt F) (sendAt X c)) Finset.univ i = outAt X (yp c) i := by
  replace hi : i ∈ (oBlk off h).view.set := by rw [oBlk_set ho h]; exact hi
  obtain ⟨x, hx⟩ := View.exists_of_mem_set_slice (v := oM.view) hi
  rw [← hx]
  refine (View.write_emb_of_mem (v := (oBlk off h).view) f _ (Finset.mem_univ x)).trans ?_
  have hj := in_rect (n := 2048) (w := 512) (n' := 32) (w' := 512) ho h x
  have hs := in_rect (n := 576) (w := 512) (n' := 32) (w' := 512) (rfl : ![32 * k.val, 0] = _) (sInb k) x
  exact sendAt_outAt X c k _ _ (x 0).val (x 0).isLt hs.1 hj.1 (hs.2.trans hj.2.symm)

/-- What arrived as block `k` from along `y`, written to the same rows of the partner along `x`, is what that result is to hold there. -/
theorem landed_x (k : Fin 14) (ho : off = ![yLo c (fwd k), 0]) (f : S2048x512.Idx → Elt F .bf16) (i : S2048x512.Idx) (hi : i ∈ xSet (xp c) k) :
    (oBlk off h).view.write (Elt F) f ((oBlk off h).view.read (Elt F) (outAt X c)) Finset.univ i = outAt X (xp c) i := by
  have hi' : i ∈ ySet c (fwd k) := by rw [xSet, xLo_xp] at hi; exact hi
  rw [outAt_xp X c k i hi']
  replace hi' : i ∈ (oBlk off h).view.set := by rw [oBlk_set ho h]; exact hi'
  obtain ⟨x, hx⟩ := View.exists_of_mem_set_slice (v := oM.view) hi'
  rw [← hx]
  exact View.write_emb_of_mem (v := (oBlk off h).view) f _ (Finset.mem_univ x)

end Transfer

/-! ## The stores -/

theorem pay1_eq (v : Vec F S448x512 .bf16) : k0_pay1 v = v := by unfold k0_pay1; dsimp only; rw [shapeCast_id, shapeCast_id]
theorem pay2_eq (v : Vec F S128x512 .bf16) : k0_pay2 v = v := by unfold k0_pay2; dsimp only; rw [shapeCast_id, shapeCast_id]
theorem pay3_eq (v : Vec F S1024x512 .bf16) : k0_pay3 v = v := by unfold k0_pay3; dsimp only; rw [shapeCast_id]

/-- The rectangles of `x` that are loaded, and the ones they are stored to. -/
abbrev xRect₁ (c : Dev nD) : Rect S1024x1024 := Rect.unit (s := S1024x1024) (k0_off1 c) S448x512.size (k0_off1_inb c)
abbrev xRect₂ (c : Dev nD) : Rect S1024x1024 := Rect.unit (s := S1024x1024) (k0_off2 c) S128x512.size (k0_off2_inb c)
abbrev xRect₃ (c : Dev nD) : Rect S1024x1024 := Rect.unit (s := S1024x1024) (k0_off5 c) S1024x512.size (k0_off5_inb c)
abbrev sRect₁ : Rect S576x512 := Rect.unit (s := S576x512) ![0, 0] S448x512.size inb_S576x512_S448x512_0_0
abbrev sRect₂ : Rect S576x512 := Rect.unit (s := S576x512) ![448, 0] S128x512.size inb_S576x512_S128x512_448_0
abbrev oRect₃ (c : Dev nD) : Rect S2048x512 := Rect.unit (s := S2048x512) (k0_off6 c) S1024x512.size (k0_off6_inb c)

theorem sRect₁_set : (sM.access sRect₁).set = sRows 0 448 :=
  (View.set_slice_whole cc0_scratch0 sRect₁).trans (set_unit_rows rfl inb_S576x512_S448x512_0_0)
theorem sRect₂_set : (sM.access sRect₂).set = sRows 448 128 :=
  (View.set_slice_whole cc0_scratch0 sRect₂).trans (set_unit_rows rfl inb_S576x512_S128x512_448_0)
theorem off6_eq (c : Dev nD) : k0_off6 c = ![ownLo c, 0] := k0_off6_eq c
theorem oRect₃_set (c : Dev nD) : (oM.access (oRect₃ c)).set = ownSet c :=
  (View.set_slice_whole cc0_stg1_0 (oRect₃ c)).trans (set_unit_rows (off6_eq c) (k0_off6_inb c))

/-- The index of `x` at a row and a column that are in it. -/
theorem ix_eq (i : S1024x1024.Idx) {r j : ℕ} (hr : (i 0).val = r % 1024) (hj : (i 1).val = j % 1024) : i = ix r j := by
  funext a; fin_cases a
  · exact Fin.ext hr
  · exact Fin.ext hj

/-- What the two stores into the send buffer leave: all that is to be sent. -/
theorem filled (X : Blocks F) (c : Dev nD) (f : S576x512.Idx → Elt F .bf16) :
    (sM.access sRect₂).write (Elt F) ((sM.access sRect₁).write (Elt F) f (k0_pay1 (xM.view.readAt (Elt F) (xRect₁ c).toLoadRect (X c))) Finset.univ)
      (k0_pay2 (xM.view.readAt (Elt F) (xRect₂ c).toLoadRect (X c))) Finset.univ = sendAt X c := by
  rw [pay1_eq, pay2_eq]
  have hy := yc_lt c; have hx := xc_lt c
  funext i
  by_cases h : (i 0).val < 448
  · rw [View.write_of_not_mem (v := sM.access sRect₂) _ _ _ (by
      show i ∉ (sM.access sRect₂).set
      rw [sRect₂_set, mem_rows]; exact fun h' => absurd h (Nat.not_lt.mpr h'.1))]
    have hi : i ∈ (sM.access sRect₁).set := by rw [sRect₁_set, mem_rows]; exact ⟨Nat.zero_le _, by rw [Nat.zero_add]; exact h⟩
    obtain ⟨x, hx⟩ := View.exists_of_mem_set_slice (v := sM.view) hi
    rw [← hx]
    refine (View.write_emb_of_mem (v := sM.access sRect₁) f _ (Finset.mem_univ x)).trans ?_
    have hj := in_rect (n := 1024) (w := 1024) (n' := 448) (w' := 512) (k0_off1_eq c) (k0_off1_inb c) x
    have hs := in_rect (n := 576) (w := 512) (n' := 448) (w' := 512) (rfl : ![0, 0] = _) inb_S576x512_S448x512_0_0 x
    have h0 : (x 0).val < 448 := (x 0).isLt
    have h1 : (x 1).val < 512 := (x 1).isLt
    show X c ((xRect₁ c).emb x) = sendAt X c (sRect₁.emb x)
    unfold sendAt
    rw [if_pos (by rw [hs.1]; omega)]
    refine congrArg (X c) (ix_eq _ ?_ ?_)
    · rw [hj.1, hs.1]; unfold xc at *; omega
    · rw [hj.2, hs.2]; unfold yc at *; omega
  · have hi : i ∈ (sM.access sRect₂).set := by
      rw [sRect₂_set, mem_rows]; exact ⟨Nat.not_lt.mp h, (i 0).isLt⟩
    obtain ⟨x, hx⟩ := View.exists_of_mem_set_slice (v := sM.view) hi
    rw [← hx]
    refine (View.write_emb_of_mem (v := sM.access sRect₂) _ _ (Finset.mem_univ x)).trans ?_
    have hj := in_rect (n := 1024) (w := 1024) (n' := 128) (w' := 512) (k0_off2_eq c) (k0_off2_inb c) x
    have hs := in_rect (n := 576) (w := 512) (n' := 128) (w' := 512) (rfl : ![448, 0] = _) inb_S576x512_S128x512_448_0 x
    have h0 : (x 0).val < 128 := (x 0).isLt
    have h1 : (x 1).val < 512 := (x 1).isLt
    show X c ((xRect₂ c).emb x) = sendAt X c (sRect₂.emb x)
    unfold sendAt
    rw [if_neg (by rw [hs.1]; omega)]
    refine congrArg (X c) (ix_eq _ ?_ ?_)
    · rw [hj.1, hs.1]; omega
    · rw [hj.2, hs.2]; unfold yc at *; omega

/-- What the store of the own half leaves there. -/
theorem own_stored (X : Blocks F) (c : Dev nD) (f : S2048x512.Idx → Elt F .bf16) (i : S2048x512.Idx) (hi : i ∈ ownSet c) :
    (oM.access (oRect₃ c)).write (Elt F) f (k0_pay3 (xM.view.readAt (Elt F) (xRect₃ c).toLoadRect (X c))) Finset.univ i = outAt X c i := by
  rw [pay3_eq]
  have hy := yc_lt c
  rw [← oRect₃_set] at hi
  obtain ⟨x, hx⟩ := View.exists_of_mem_set_slice (v := oM.view) hi
  rw [← hx]
  refine (View.write_emb_of_mem (v := oM.access (oRect₃ c)) f _ (Finset.mem_univ x)).trans ?_
  have hj := in_rect (n := 1024) (w := 1024) (n' := 1024) (w' := 512) (k0_off5_eq c) (k0_off5_inb c) x
  have hs := in_rect (n := 2048) (w := 512) (n' := 1024) (w' := 512) (off6_eq c) (k0_off6_inb c) x
  have h0 : (x 0).val < 1024 := (x 0).isLt
  have h1 : (x 1).val < 512 := (x 1).isLt
  show X c ((xRect₃ c).emb x) = outAt X c ((oRect₃ c).emb x)
  unfold outAt srcOf
  rw [if_pos (by rw [hs.1]; unfold ownLo; omega)]
  refine congrArg (X c) (ix_eq _ ?_ ?_)
  · rw [hj.1, hs.1]; unfold ownLo; omega
  · rw [hj.2, hs.2]; unfold yc at *; omega

end Cert.Exchange

end
-- ==== Proof.Steps.lean ====
/- One statement at a time: a transfer along `y`, one along `x`, a wait on a block's cell; and the rule for a statement per
   element of a list. Each is proved once, for every device and every block. -/
module

public import proofs.«01_k».proof.Proof.Schedule
public import proofs.«01_k».proof.Proof.Moves

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev runs (c : Dev nD) (p : P (F := F)) (Q : PUnit → sProp 𝕄) : sProp 𝕄 :=
  wp frame (wpE (defs₀ (F := F)) 𝒱₀ (c : Thread nD τ) none) Set.univ p Q

/-! ## Programs in sequence -/

/-- One program after another, the rest of what is held kept aside for the second. -/
theorem runs_then {c : Dev nD} {p q : P (F := F)} {A B : sProp 𝕄} {Q : PUnit → sProp 𝕄} (h : A ⊢ runs c p fun _ => B) :
    iprop(A ∗ (B -∗ runs c q Q)) ⊢ runs c (p >>= fun _ => q) Q := by
  unfold runs
  rw [wp_bind]
  iintro ⟨HA, HK⟩
  ihave Hp := h $$ HA
  iapply (wp_wand) $$ Hp
  iintro %u HB
  iapply HK
  iexact HB

/-- The rule for a statement per element: what the statements pass along (`S`, over the elements still to come), what each
    one uses up (`T`) and what each one leaves (`D`). -/
theorem runs_each {c : Dev nD} {ι : Type} {f : ι → P (F := F)} {S : List ι → sProp 𝕄} {T D : ι → sProp 𝕄}
    (h : ∀ i l, iprop(S (i :: l) ∗ T i) ⊢ runs c (f i) fun _ => iprop(S l ∗ D i)) (l : List ι) :
    iprop(S l ∗ bigSepL l T) ⊢ runs c (each l f) fun _ => iprop(S [] ∗ bigSepL l D) := by
  induction l with
  | nil =>
    unfold each runs; rw [wp_ret]
    iintro H; imodintro; iexact H
  | cons i l ih =>
    unfold each
    rw [bigSepL_cons', bigSepL_cons']
    iintro ⟨HS, HT, HTs⟩
    iapply (runs_then (h i l))
    isplitl [HS HT]
    · isplitl [HS] <;> iassumption
    iintro ⟨HS, HD⟩
    unfold runs
    ihave Hr := ih $$ [HS HTs]
    · isplitl [HS] <;> iassumption
    iapply (wp_wand) $$ Hr
    iintro %u ⟨HS, HDs⟩
    isplitl [HS]; · iexact HS
    isplitl [HD] <;> iassumption

/-! ## What every statement finds -/

variable (X : Blocks F) (K : Dev nD × All → ℕ)

/-- The cells' invariants at the names `K`, that every cell has reached its round, and the levels. -/
def env : sProp 𝕄 :=
  iprop((bigSep Finset.univ fun ca : Dev nD × All => cellInv EX (sched X) (K ca) (cell ca.1 ca.2))
    ∗ (bigSep Finset.univ fun ca : Dev nD × All => reached EX (cell ca.1 ca.2) 0) ∗ levelsAt)

instance env_persistent : BI.Persistent (env X K) := by unfold env; infer_instance

/-- That, and what device `c` owes. -/
def st (c : Dev nD) (O : CellTallies nD τ sig Unit) : sProp 𝕄 := iprop(env X K ∗ ∃ W, owes (c : Thread nD τ) O W)

omit [FloatOps F] in
theorem env_inv (c : Dev nD) (a : All) : env X K ⊢ cellInv EX (sched X) (K (c, a)) (cell c a) := by
  have hi : (bigSep Finset.univ fun ca : Dev nD × All => cellInv EX (sched X) (K ca) (cell ca.1 ca.2) : sProp 𝕄)
      ⊢ cellInv EX (sched X) (K (c, a)) (cell c a) := bigSep_elim (Finset.mem_univ (c, a))
  unfold env; iintro ⟨H, -⟩
  iapply hi; iexact H
omit [FloatOps F] in
theorem env_reached (c : Dev nD) (a : All) : env X K ⊢ reached EX (cell c a) 0 := by
  have hi : (bigSep Finset.univ fun ca : Dev nD × All => reached EX (cell ca.1 ca.2) 0 : sProp 𝕄) ⊢ reached EX (cell c a) 0 :=
    bigSep_elim (Finset.mem_univ (c, a))
  unfold env; iintro ⟨-, H, -⟩
  iapply hi; iexact H
omit [FloatOps F] in
theorem env_mayWait (c : Dev nD) (sm : SemLoc sig) (n : ℕ) (hn : lvl (role sm) ≤ n) {O : CellTallies nD τ sig Unit} (hO : Above n O) :
    env X K ⊢ MayWait (c : Thread nD τ) sm () O := by
  unfold env; iintro ⟨-, -, H⟩
  iapply (levels_mayWait c sm n hn hO); iexact H

/-! ## The transfers -/

section Transfer

variable (c n : Dev nD) {off : Fin 2 → ℕ} (h : ∀ a, off a + S32x512.size a ≤ S2048x512.size a) (hw : Words off h)

/-- What the transfer of block `k` along `y` uses up, and what it leaves. -/
abbrev needY (f : S2048x512.Idx → Elt F .bf16) (k : Fin 18) : sProp 𝕄 :=
  iprop(sPt c (sSet k) (sendAt X c) ∗ oPt (yp c) (ySet (yp c) k) f
    ∗ dutyTok EX (cell c (.inr (ys k))) 0 false ∗ dutyTok EX (cell (yp c) (.inr (yr k))) 0 false)
abbrev sent (c : Dev nD) (a : Own) : sProp 𝕄 := cred (tallyAt (cell c (.inr a)) () N)

theorem sendY_step (hn : n = yp c) (k : Fin 18) (ho : off = ![yLo (yp c) k, 0]) (f : S2048x512.Idx → Elt F .bf16) (O : CellTallies nD τ sig Unit) :
    iprop(st X K c (O + tallyAt (cell (yp c) (.inr (yr k))) () N) ∗ needY X c f k)
      ⊢ runs c (sendY n k off h hw) fun _ => iprop(st X K c O ∗ sent c (ys k)) := by
  subst hn
  unfold st needY runs
  iintro ⟨⟨#He, ⟨%W, HO⟩⟩, Hs, Ho, HtS, HtR⟩
  iapply (Rounds.wp_send_pointsTo 𝒱₀ EX (sched X) (c : Thread nD τ) none (κ₁ := K (c, .inr (ys k))) (κ₂ := K (yp c, .inr (yr k)))
    (c' := ((yp c : Dev nD) : Thread nD τ)) (src := sBlk k) (dst := oBlk off h) (sS := .dma (ysS k)) (sem := .dma (yrS k))
    (r₁ := 0) (r₂ := 0) (d₁ := false) (d₂ := false) (fs := sendAt X c) (fd := f)
    (by rw [show ((c : Thread nD τ), SemLoc.dma (ysS k)) = cell c (.inr (ys k)) from rfl, duties_cell]; exact Finset.mem_singleton_self _)
    (by rw [show (((yp c : Dev nD) : Thread nD τ), SemLoc.dma (yrS k)) = cell (yp c) (.inr (yr k)) from rfl, duties_cell]; exact Finset.mem_singleton_self _)
    () () N rfl (amount_cell X c (.inr (ys k)) false) (amount_cell X (yp c) (.inr (yr k)) false) O rfl (W := W)
    (by
      rw [show (sched X).payload ((c : Thread nD τ), SemLoc.dma (ysS k)) 0 false = _ from payload_cell X c (.inr (ys k)) false, sBlk_set]
      exact BI.Entails.refl _)
    (by
      rw [show (sched X).payload (((yp c : Dev nD) : Thread nD τ), SemLoc.dma (yrS k)) 0 false = _ from payload_cell X (yp c) (.inr (yr k)) false, oBlk_set ho]
      exact Entails.of_eq (pointsTo_congr (landed_y X c h k ho f)))) $$ [Hs Ho HO HtS HtR]
  · isplitr; · iapply (env_inv X K c (.inr (ys k))); iexact He
    isplitr; · iapply (env_inv X K (yp c) (.inr (yr k))); iexact He
    isplitl [Hs]; · rw [sBlk_set]; iexact Hs
    isplitl [Ho]; · rw [oBlk_set ho]; iexact Ho
    isplitl [HO]; · iexact HO
    isplitl [HtS]; · iexact HtS
    isplitr; · iapply (env_reached X K c (.inr (ys k))); iexact He
    isplitl [HtR]; · iexact HtR
    iapply (env_reached X K (yp c) (.inr (yr k))); iexact He
  iintro ⟨Hc, HO⟩
  rw [wp_ret]; imodintro
  isplitr [Hc]
  · isplitr; · iexact He
    iexists W; iexact HO
  iexact Hc

/-- What the transfer of block `k` along `x` uses up. -/
abbrev needX (f : S2048x512.Idx → Elt F .bf16) (k : Fin 14) : sProp 𝕄 :=
  iprop(oPt c (ySet c (fwd k)) (outAt X c) ∗ oPt (xp c) (xSet (xp c) k) f
    ∗ dutyTok EX (cell c (.inr (xs k))) 0 false ∗ dutyTok EX (cell (xp c) (.inr (xr k))) 0 false)

theorem sendX_step (hn : n = xp c) (k : Fin 14) (ho : off = ![yLo c (fwd k), 0]) (f : S2048x512.Idx → Elt F .bf16) (O : CellTallies nD τ sig Unit) :
    iprop(st X K c (O + tallyAt (cell (xp c) (.inr (xr k))) () N) ∗ needX X c f k)
      ⊢ runs c (sendX n k off h hw) fun _ => iprop(st X K c O ∗ sent c (xs k)) := by
  subst hn
  unfold st needX runs
  iintro ⟨⟨#He, ⟨%W, HO⟩⟩, Hs, Ho, HtS, HtR⟩
  have hx : xSet (xp c) k = ySet c (fwd k) := by show oRows (xLo (xp c) k) 32 = _; rw [xLo_xp]
  iapply (Rounds.wp_send_pointsTo 𝒱₀ EX (sched X) (c : Thread nD τ) none (κ₁ := K (c, .inr (xs k))) (κ₂ := K (xp c, .inr (xr k)))
    (c' := ((xp c : Dev nD) : Thread nD τ)) (src := oBlk off h) (dst := oBlk off h) (sS := .dma (xsS k)) (sem := .dma (xrS k))
    (r₁ := 0) (r₂ := 0) (d₁ := false) (d₂ := false) (fs := outAt X c) (fd := f)
    (by rw [show ((c : Thread nD τ), SemLoc.dma (xsS k)) = cell c (.inr (xs k)) from rfl, duties_cell]; exact Finset.mem_singleton_self _)
    (by rw [show (((xp c : Dev nD) : Thread nD τ), SemLoc.dma (xrS k)) = cell (xp c) (.inr (xr k)) from rfl, duties_cell]; exact Finset.mem_singleton_self _)
    () () N rfl (amount_cell X c (.inr (xs k)) false) (amount_cell X (xp c) (.inr (xr k)) false) O rfl (W := W)
    (by
      rw [show (sched X).payload ((c : Thread nD τ), SemLoc.dma (xsS k)) 0 false = _ from payload_cell X c (.inr (xs k)) false, oBlk_set ho]
      exact BI.Entails.refl _)
    (by
      rw [show (sched X).payload (((xp c : Dev nD) : Thread nD τ), SemLoc.dma (xrS k)) 0 false = _ from payload_cell X (xp c) (.inr (xr k)) false, oBlk_set ho]
      show _ ⊢ oPt (xp c) (xSet (xp c) k) (outAt X (xp c))
      rw [show oRows (yLo c (fwd k)) 32 = xSet (xp c) k from hx.symm]
      exact Entails.of_eq (pointsTo_congr (landed_x X c h k ho f)))) $$ [Hs Ho HO HtS HtR]
  · isplitr; · iapply (env_inv X K c (.inr (xs k))); iexact He
    isplitr; · iapply (env_inv X K (xp c) (.inr (xr k))); iexact He
    isplitl [Hs]; · rw [oBlk_set ho]; iexact Hs
    isplitl [Ho]; · rw [oBlk_set ho, show oRows (yLo c (fwd k)) 32 = xSet (xp c) k from hx.symm]; iexact Ho
    isplitl [HO]; · iexact HO
    isplitl [HtS]; · iexact HtS
    isplitr; · iapply (env_reached X K c (.inr (xs k))); iexact He
    isplitl [HtR]; · iexact HtR
    iapply (env_reached X K (xp c) (.inr (xr k))); iexact He
  iintro ⟨Hc, HO⟩
  rw [wp_ret]; imodintro
  isplitr [Hc]
  · isplitr; · iexact He
    iexists W; iexact HO
  iexact Hc

end Transfer

/-! ## The waits -/

/-- What a wait on a block's cell uses up, and what it leaves: the cell after its round, and what it handed over. -/
abbrev waiting (c : Dev nD) (a : Own) : sProp 𝕄 := iprop(sent c a ∗ atPos EX (cell c (.inr a)) 0 ∅ 0)
abbrev waited (c : Dev nD) (a : Own) : sProp 𝕄 := iprop(atPos EX (cell c (.inr a)) 1 ∅ 0 ∗ pay X c (.inr a) false)

/-- A wait of one transfer's amount on a block's cell, whatever is owed to cells at higher levels. -/
theorem wait_step (c : Dev nD) (a : Own) {w : TpuEff nD τ sig (Elt F) Λ₀ .tc PUnit} {m : ℕ}
    (hw : ∀ Q : PUnit → sProp 𝕄, wpE (defs₀ (F := F)) 𝒱₀ (c : Thread nD τ) none Set.univ w Q = waitSpec (c : Thread nD τ) Set.univ (semAt (.inr a)) m Q)
    (hm : m = N) (O : CellTallies nD τ sig Unit) (hO : Above (lvl (some (.inr a))) O) :
    iprop(st X K c O ∗ waiting c a) ⊢ runs c (Prog.lift w) fun _ => iprop(st X K c O ∗ waited X c a) := by
  subst hm
  have hlv : lvl (role (semAt (.inr a))) ≤ lvl (some (.inr a)) := Nat.le_of_eq (congrArg lvl (role_semAt (.inr a)))
  have hmay : env X K ⊢ MayWait (c : Thread nD τ) (semAt (.inr a)) () O := env_mayWait X K c _ _ hlv hO
  unfold st waiting waited runs Prog.lift
  iintro ⟨⟨#He, ⟨%W, HO⟩⟩, Hc, Hat⟩
  iapply (Rounds.wp_wait_rest_token 𝒱₀ EX (sched X) (c : Thread nD τ) none (κ := K (c, .inr a)) (sm := semAt (.inr a)) (k' := N)
    hw (Set.mem_univ _) () (O := O) (W := W) (R := 0) (m := 0) (T := ∅)
    ((Nat.zero_add _).trans (expect_own X c a).symm)) $$ [Hc HO Hat]
  · isplitr; · iapply (env_inv X K c (.inr a)); iexact He
    isplitl [Hc]; · iexact Hc
    isplitl [HO]; · iexact HO
    isplitr
    · iapply hmay; iexact He
    iexact Hat
  iintro ⟨HO, Hat, -, Hp⟩
  ihave Hp := (Entails.of_eq (rest_own X c a)) $$ Hp
  rw [wp_ret]; imodintro
  isplitr [Hat Hp]
  · isplitr; · iexact He
    iexists _; iexact HO
  isplitl [Hat] <;> iassumption

end Cert.Exchange

end
-- ==== Proof.Head.lean ====
/- The two parts of the body that are not transfers: the handshake, in which the device fills its send buffer, gives its
   partners the rows of its result they are to write and gets theirs; and the store of the own half. Before them, how the
   two buffers fall into the rows that change hands. -/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F) (K : Dev nD × All → ℕ)

/-! ## The buffers by rows -/

/-- Device `c`'s block of `x`, whole. -/
abbrev xPt (c : Dev nD) : sProp 𝕄 := ((c : Thread nD τ).loc cc0_stg0_0) ↦{fullShare} X c

omit [FloatOps F] in
theorem oPt_union (c : Dev nD) {I J : Finset S2048x512.Idx} (h : Disjoint I J) (f : S2048x512.Idx → Elt F .bf16) :
    (oPt c (I ∪ J) f : sProp 𝕄) = iprop(oPt c I f ∗ oPt c J f) :=
  equiv_iff.mp ⟨(pointsTo_union (ℓ := (c : Thread nD τ).loc cc0_stg1_0) h).1, (pointsTo_union (ℓ := (c : Thread nD τ).loc cc0_stg1_0) h).2⟩
omit [FloatOps F] in
/-- The result is the own half, the rows from along `y` and the rows from along `x`; -/
theorem result_pieces (c : Dev nD) (f : S2048x512.Idx → Elt F .bf16) :
    (oPt c Finset.univ f : sProp 𝕄) = iprop(oPt c (ownSet c) f
      ∗ (bigSep Finset.univ fun k : Fin 18 => oPt c (ySet c k) f) ∗ bigSep Finset.univ fun k : Fin 14 => oPt c (xSet c k) f) := by
  rw [← result_cover c]
  rw [oPt_union c (own_arrive_disjoint c), oPt_union c (yAll_xAll_disjoint c)]
  exact congrArg₂ (fun P Q : sProp 𝕄 => iprop(oPt c (ownSet c) f ∗ P ∗ Q))
    (pointsTo_biUnion (ℓ := (c : Thread nD τ).loc cc0_stg1_0) Finset.univ (ySet c) fun k _ k' _ h => ySet_disjoint c h)
    (pointsTo_biUnion (ℓ := (c : Thread nD τ).loc cc0_stg1_0) Finset.univ (xSet c) fun k _ k' _ h => xSet_disjoint c h)

omit [FloatOps F] in
/-- the send buffer is its blocks. -/
theorem send_pieces (c : Dev nD) (f : S576x512.Idx → Elt F .bf16) :
    (sPt c Finset.univ f : sProp 𝕄) = bigSep Finset.univ fun k : Fin 18 => sPt c (sSet k) f := by
  rw [← send_cover]
  exact pointsTo_biUnion (ℓ := (c : Thread nD τ).loc cc0_scratch0) Finset.univ sSet fun k _ k' _ h => sSet_disjoint h

/-! ## The handshake -/

/-- What the handshake uses up, -/
abbrev needHead (c : Dev nD) : sProp 𝕄 :=
  iprop(atPos EX (cell c bar) 0 ∅ 0 ∗ cred (tallyAt (cell c bar) () 2)
    ∗ dutyTok EX (cell (yp c) bar) 0 false ∗ dutyTok EX (cell (xp c) bar) 0 true
    ∗ yRoom c ∗ xRoom c ∗ xPt X c ∗ ∃ f, sPt c Finset.univ f)
/-- and what it leaves. -/
abbrev gotHead (c : Dev nD) : sProp 𝕄 :=
  iprop(atPos EX (cell c bar) 1 ∅ 0 ∗ yRoom (yp c) ∗ xRoom (xp c) ∗ xPt X c ∗ sPt c Finset.univ (sendAt X c))

theorem head_step (c : Dev nD) :
    iprop(st X K c (owed₀ c) ∗ needHead X c) ⊢ runs c (head c) fun _ => iprop(st X K c (owed₂ c) ∗ gotHead X c) := by
  unfold st head runs
  simp only [semSignalWord, semWaitWord, Prog.lift, Prog.bind_op, Prog.bind_ret, Prog.pure_eq_ret, dev1_eq c, dev2_eq c]
  iintro ⟨⟨#He, ⟨%W, HO⟩⟩, Hat, Hcr, HtY, HtX, Hy, Hx, Hxb, ⟨%f, Hs⟩⟩
  iapply (Rounds.wp_signal 𝒱₀ EX (sched X) (c : Thread nD τ) none (dst := ((yp c : Dev nD) : Thread nD τ)) (κ := K (yp c, bar)) (r := 0) (d := false)
    (by rw [show (((yp c : Dev nD) : Thread nD τ), SemLoc.reg barS) = cell (yp c) bar from rfl, duties_cell]; exact Finset.mem_univ _)
    (amount_cell X (yp c) bar false) () (owed₁ c) rfl) $$ [HO HtY Hy]
  · isplitr; · iapply (env_inv X K (yp c) bar); iexact He
    isplitl [HO]; · iexact HO
    isplitl [HtY]; · iexact HtY
    isplitl [Hy]
    · rw [show (sched X).payload (((yp c : Dev nD) : Thread nD τ), SemLoc.reg barS) 0 false = yRoom c from
        (payload_cell X (yp c) bar false).trans (congrArg yRoom (yp_yp c))]
      iexact Hy
    iapply (env_reached X K (yp c) bar); iexact He
  iintro HO
  iapply (Rounds.wp_signal 𝒱₀ EX (sched X) (c : Thread nD τ) none (dst := ((xp c : Dev nD) : Thread nD τ)) (κ := K (xp c, bar)) (r := 0) (d := true)
    (by rw [show (((xp c : Dev nD) : Thread nD τ), SemLoc.reg barS) = cell (xp c) bar from rfl, duties_cell]; exact Finset.mem_univ _)
    (amount_cell X (xp c) bar true) () (owed₂ c) rfl) $$ [HO HtX Hx]
  · isplitr; · iapply (env_inv X K (xp c) bar); iexact He
    isplitl [HO]; · iexact HO
    isplitl [HtX]; · iexact HtX
    isplitl [Hx]
    · rw [show (sched X).payload (((xp c : Dev nD) : Thread nD τ), SemLoc.reg barS) 0 true = xRoom c from
        (payload_cell X (xp c) bar true).trans (congrArg xRoom (xp_xp c))]
      iexact Hx
    iapply (env_reached X K (xp c) bar); iexact He
  iintro HO
  iapply (wp_load 𝒱₀ (c : Thread nD τ) none Set.univ (m := xM) (Finset.subset_univ _)) $$ Hxb; iintro Hxb
  iapply (wp_load 𝒱₀ (c : Thread nD τ) none Set.univ (m := sM) (Finset.subset_univ _)) $$ Hs; iintro Hs
  iapply (wp_store 𝒱₀ (c : Thread nD τ) none Set.univ (m := sM) (r := sRect₁) (Mk := Finset.univ) (Finset.subset_univ _)) $$ Hs; iintro Hs
  iapply (wp_load 𝒱₀ (c : Thread nD τ) none Set.univ (m := xM) (Finset.subset_univ _)) $$ Hxb; iintro Hxb
  iapply (wp_load 𝒱₀ (c : Thread nD τ) none Set.univ (m := sM) (Finset.subset_univ _)) $$ Hs; iintro Hs
  iapply (wp_store 𝒱₀ (c : Thread nD τ) none Set.univ (m := sM) (r := sRect₂) (Mk := Finset.univ) (Finset.subset_univ _)) $$ Hs; iintro Hs
  rw [filled]
  iapply (Rounds.wp_wait_rest_token 𝒱₀ EX (sched X) (c : Thread nD τ) none (κ := K (c, bar)) (sm := semAt bar) (k' := 2)
    (wpE_semWait_eq 𝒱₀ (c : Thread nD τ) none Set.univ) (Set.mem_univ _) () (O := owed₂ c) (W := W) (R := 0) (m := 0) (T := ∅)
    ((Nat.zero_add _).trans (expect_bar X c).symm)) $$ [Hcr HO Hat]
  · isplitr; · iapply (env_inv X K c bar); iexact He
    isplitl [Hcr]; · iexact Hcr
    isplitl [HO]; · iexact HO
    isplitr
    · iapply (env_mayWait X K c (semAt bar) 1 (Nat.le_refl 1) (above_owed₂ c)); iexact He
    iexact Hat
  iintro ⟨HO, Hat, -, Hp⟩
  ihave Hp := (Entails.of_eq (rest_bar X c)) $$ Hp
  icases Hp with ⟨Hy, Hx⟩
  rw [wp_ret]; imodintro
  isplitl [HO]
  · isplitr; · iexact He
    iexists _; iexact HO
  isplitl [Hat]; · iexact Hat
  isplitl [Hy]; · iexact Hy
  isplitl [Hx]; · iexact Hx
  isplitl [Hxb] <;> iassumption

/-! ## The own half -/

theorem own_access (c : Dev nD) : (oM.access (oRect₃ c)).setOn Finset.univ ⊆ ownSet c := by
  rw [View.setOn_univ, oRect₃_set]
theorem own_load (c : Dev nD) : oM.view.setOn (oRect₃ c).toLoadRect.set ⊆ ownSet c := by
  rw [← oRect₃_set, View.set_slice]; exact Finset.Subset.refl _

theorem own_step (c : Dev nD) (f : S2048x512.Idx → Elt F .bf16) :
    iprop(xPt X c ∗ oPt c (ownSet c) f) ⊢ runs c (own c) fun _ => iprop(xPt X c ∗ oPt c (ownSet c) (outAt X c)) := by
  unfold own runs
  simp only [Prog.lift, Prog.bind_op, Prog.bind_ret, Prog.pure_eq_ret]
  iintro ⟨Hx, Ho⟩
  iapply (wp_load 𝒱₀ (c : Thread nD τ) none Set.univ (m := xM) (Finset.subset_univ _)) $$ Hx; iintro Hx
  iapply (wp_load 𝒱₀ (c : Thread nD τ) none Set.univ (m := oM) (own_load c)) $$ Ho; iintro Ho
  iapply (wp_store 𝒱₀ (c : Thread nD τ) none Set.univ (m := oM) (r := oRect₃ c) (Mk := Finset.univ) (own_access c)) $$ Ho; iintro Ho
  ihave Ho := (Entails.of_eq (pointsTo_congr (ℓ := (c : Thread nD τ).loc cc0_stg1_0) (own_stored X c f))) $$ Ho
  rw [wp_ret]; imodintro
  isplitl [Hx] <;> iassumption

end Cert.Exchange

end
-- ==== Proof.Body.lean ====
/- The body, at a symbolic device: each loop by the rule for its one statement, and the loops in sequence. The device starts
   with its positions, the tokens of the payments it makes, the credits of those made to it, its block of `x` and its two
   buffers; it ends with the result written, and every cell closed at zero. -/
module

public import proofs.«01_k».proof.Proof.Head

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F) (K : Dev nD × All → ℕ)

/-! ## Families over the blocks -/

omit [FloatOps F] in
theorem over14 (Φ : Fin 14 → sProp 𝕄) : bigSep Finset.univ Φ = bigSepL l14 Φ := bigSep_univ_eq_bigSepL l14 (by decide) (by decide) Φ
omit [FloatOps F] in
theorem over4 (Φ : Fin 4 → sProp 𝕄) : bigSep Finset.univ Φ = bigSepL l4 Φ := bigSep_univ_eq_bigSepL l4 (by decide) (by decide) Φ

omit [FloatOps F] in
/-- The 18 blocks sent along `y` are the forwarded ones and the others. -/
theorem over18 (Φ : Fin 18 → sProp 𝕄) :
    bigSep Finset.univ Φ = iprop((bigSep Finset.univ fun k : Fin 14 => Φ (fwd k)) ∗ bigSep Finset.univ fun k : Fin 4 => Φ (dup k)) := by
  rw [bigSep_univ_eq_bigSepL (l14.map fwd ++ l4.map dup) (by decide) (by decide), bigSepL_append, bigSepL_map, bigSepL_map, over14, over4]

omit [FloatOps F] in
/-- The exchange's semaphores are the barrier's and the blocks'. -/
theorem overAll (Φ : All → sProp 𝕄) :
    bigSep Finset.univ Φ = iprop(Φ bar
      ∗ ((bigSep Finset.univ fun k => Φ (.inr (ys k))) ∗ bigSep Finset.univ fun k => Φ (.inr (yr k)))
      ∗ (bigSep Finset.univ fun k => Φ (.inr (xs k))) ∗ bigSep Finset.univ fun k => Φ (.inr (xr k))) := by
  rw [bigSep_univ_sum, bigSep_univ_sum, bigSep_univ_sum, bigSep_univ_sum,
    show (bigSep Finset.univ fun a : Unit => Φ (.inl a) : sProp 𝕄) = Φ bar from bigSep_univ_eq_bigSepL [()] (by decide) (by decide) _]
  rfl

/-! ## The loops -/

/-- The rule for a loop over the forwarded blocks, and the one over the others. -/
theorem runs14 {c : Dev nD} {f : Fin 14 → P (F := F)} {S : List (Fin 14) → sProp 𝕄} {T D : Fin 14 → sProp 𝕄}
    (h : ∀ i l, iprop(S (i :: l) ∗ T i) ⊢ runs c (f i) fun _ => iprop(S l ∗ D i)) :
    iprop(S l14 ∗ bigSep Finset.univ T) ⊢ runs c (each l14 f) fun _ => iprop(S [] ∗ bigSep Finset.univ D) := by
  rw [over14, over14]; exact runs_each h l14
theorem runs4 {c : Dev nD} {f : Fin 4 → P (F := F)} {S : List (Fin 4) → sProp 𝕄} {T D : Fin 4 → sProp 𝕄}
    (h : ∀ i l, iprop(S (i :: l) ∗ T i) ⊢ runs c (f i) fun _ => iprop(S l ∗ D i)) :
    iprop(S l4 ∗ bigSep Finset.univ T) ⊢ runs c (each l4 f) fun _ => iprop(S [] ∗ bigSep Finset.univ D) := by
  rw [over4, over4]; exact runs_each h l4

/-- The transfers along `y` of the forwarded blocks, -/
theorem sendF_loop (c : Dev nD) (f : S2048x512.Idx → Elt F .bf16) :
    iprop(st X K c (owed₂ c) ∗ bigSep Finset.univ fun k : Fin 14 => needY X c f (fwd k))
      ⊢ runs c (each l14 (sendF c)) fun _ => iprop(st X K c (due (toX c) l14 + due (toD c) l4) ∗ bigSep Finset.univ fun k : Fin 14 => sent c (ys (fwd k))) := by
  have h := runs14 (c := c) (f := sendF c) (S := fun l => st X K c ((due (toX c) l14 + due (toD c) l4) + due (toF c) l))
    (T := fun k => needY X c f (fwd k)) (D := fun k => sent c (ys (fwd k))) fun k l => by
      rw [due_cons (toF c) k l, ← add_assoc]
      exact sendY_step X K c _ _ _ (yDev_eq c) (fwd k) (off3_eq c k) f _
  rw [due_nil, add_zero] at h
  exact h
/-- and of the others. -/
theorem sendD_loop (c : Dev nD) (f : S2048x512.Idx → Elt F .bf16) :
    iprop(st X K c (due (toX c) l14 + due (toD c) l4) ∗ bigSep Finset.univ fun k : Fin 4 => needY X c f (dup k))
      ⊢ runs c (each l4 (sendD c)) fun _ => iprop(st X K c (due (toX c) l14) ∗ bigSep Finset.univ fun k : Fin 4 => sent c (ys (dup k))) := by
  have h := runs4 (c := c) (f := sendD c) (S := fun l => st X K c (due (toX c) l14 + due (toD c) l))
    (T := fun k => needY X c f (dup k)) (D := fun k => sent c (ys (dup k))) fun k l => by
      rw [due_cons (toD c) k l, ← add_assoc]
      exact sendY_step X K c _ _ _ (yDev_eq c) (dup k) (off4_eq c k) f _
  rw [due_nil, add_zero] at h
  exact h

/-- The amount of a wait is that of one transfer, whichever rows it names; -/
theorem oBlk_credit (off : Fin 2 → ℕ) (h) : (oBlk off h).view.dmaCredit = N := rfl
theorem sBlk_credit (k : Fin 18) : (sBlk k).view.dmaCredit = N := rfl

section Wait

variable (c : Dev nD) (off : Fin 2 → ℕ) (h : ∀ a, off a + S32x512.size a ≤ S2048x512.size a) (hw : Words off h) (O : CellTallies nD τ sig Unit)

/-- so the four waits are each a wait on the block's cell. -/
theorem waitYR_step (k : Fin 18) (hO : Above 2 O) :
    iprop(st X K c O ∗ waiting c (yr k)) ⊢ runs c (waitYR k off h hw) fun _ => iprop(st X K c O ∗ waited X c (yr k)) :=
  wait_step X K c (yr k) (w := .waitDma2 (yrS k) (sBlk k) (oBlk off h) (sExact k) (oExact hw)) (m := (oBlk off h).view.dmaCredit)
    (fun Q => wpE_waitDma2_eq 𝒱₀ (c : Thread nD τ) none Set.univ Q) (oBlk_credit off h) O hO
theorem waitYS_step (k : Fin 18) (hO : Above 0 O) :
    iprop(st X K c O ∗ waiting c (ys k)) ⊢ runs c (waitYS k off h hw) fun _ => iprop(st X K c O ∗ waited X c (ys k)) :=
  wait_step X K c (ys k) (w := .waitDma2 (ysS k) (oBlk off h) (sBlk k) (oExact hw) (sExact k)) (m := (sBlk k).view.dmaCredit)
    (fun Q => wpE_waitDma2_eq 𝒱₀ (c : Thread nD τ) none Set.univ Q) (sBlk_credit k) O hO
theorem waitXR_step (k : Fin 14) (hO : Above 3 O) :
    iprop(st X K c O ∗ waiting c (xr k)) ⊢ runs c (waitXR k off h hw) fun _ => iprop(st X K c O ∗ waited X c (xr k)) :=
  wait_step X K c (xr k) (w := .waitDma2 (xrS k) (oBlk off h) (oBlk off h) (oExact hw) (oExact hw)) (m := (oBlk off h).view.dmaCredit)
    (fun Q => wpE_waitDma2_eq 𝒱₀ (c : Thread nD τ) none Set.univ Q) (oBlk_credit off h) O hO
theorem waitXS_step (k : Fin 14) (hO : Above 0 O) :
    iprop(st X K c O ∗ waiting c (xs k)) ⊢ runs c (waitXS k off h hw) fun _ => iprop(st X K c O ∗ waited X c (xs k)) :=
  wait_step X K c (xs k) (w := .waitDma2 (xsS k) (oBlk off h) (oBlk off h) (oExact hw) (oExact hw)) (m := (oBlk off h).view.dmaCredit)
    (fun Q => wpE_waitDma2_eq 𝒱₀ (c : Thread nD τ) none Set.univ Q) (oBlk_credit off h) O hO

end Wait

/-- What forwarding block `k` uses up, and what it leaves. -/
abbrev needRelay (c : Dev nD) (f : S2048x512.Idx → Elt F .bf16) (k : Fin 14) : sProp 𝕄 :=
  iprop(waiting c (yr (fwd k)) ∗ oPt (xp c) (xSet (xp c) k) f
    ∗ dutyTok EX (cell c (.inr (xs k))) 0 false ∗ dutyTok EX (cell (xp c) (.inr (xr k))) 0 false)
abbrev gotRelay (c : Dev nD) (k : Fin 14) : sProp 𝕄 := iprop(atPos EX (cell c (.inr (yr (fwd k)))) 1 ∅ 0 ∗ sent c (xs k))

theorem relay_step (c : Dev nD) (f : S2048x512.Idx → Elt F .bf16) (k : Fin 14) (l : List (Fin 14)) :
    iprop(st X K c (due (toX c) (k :: l)) ∗ needRelay c f k) ⊢ runs c (relay c k) fun _ => iprop(st X K c (due (toX c) l) ∗ gotRelay c k) := by
  unfold needRelay
  iintro ⟨Hst, Hw, Ho, HtS, HtR⟩
  iapply (runs_then (waitYR_step X K c _ _ (k0_off3_wordsbf16 c k) (due (toX c) (k :: l)) (fwd k) (above_toX (show 2 < 3 by decide) c _)))
  isplitl [Hst Hw]
  · isplitl [Hst] <;> iassumption
  rw [due_cons]
  iintro ⟨Hst, Hat, Hp⟩
  ihave Hp := (Entails.of_eq (show pay X c (.inr (yr (fwd k))) false = oPt c (ySet c (fwd k)) (outAt X c) from rfl)) $$ Hp
  unfold runs
  ihave Hr := (sendX_step X K c _ _ (k0_off7_wordsbf16 c k) (xDev_eq c) k (off7_eq c k) f (due (toX c) l)) $$ [Hst Hp Ho HtS HtR]
  · isplitl [Hst]; · iexact Hst
    isplitl [Hp]; · iexact Hp
    isplitl [Ho]; · iexact Ho
    isplitl [HtS] <;> iassumption
  iapply (wp_wand) $$ Hr
  iintro %u ⟨Hst, Hs⟩
  isplitl [Hst]; · iexact Hst
  isplitl [Hat] <;> iassumption

theorem relay_loop (c : Dev nD) (f : S2048x512.Idx → Elt F .bf16) :
    iprop(st X K c (due (toX c) l14) ∗ bigSep Finset.univ fun k : Fin 14 => needRelay c f k)
      ⊢ runs c (each l14 (relay c)) fun _ => iprop(st X K c 0 ∗ bigSep Finset.univ fun k : Fin 14 => gotRelay c k) := by
  have h := runs14 (c := c) (f := relay c) (S := fun l => st X K c (due (toX c) l)) (T := needRelay c f) (D := gotRelay c)
    fun k l => relay_step X K c f k l
  rw [due_nil] at h
  exact h

/-- Once nothing is owed: the waits for what arrives from along `y` and is not forwarded, -/
theorem takeD_loop (c : Dev nD) :
    iprop(st X K c 0 ∗ bigSep Finset.univ fun k : Fin 4 => waiting c (yr (dup k)))
      ⊢ runs c (each l4 (takeD c)) fun _ => iprop(st X K c 0 ∗ bigSep Finset.univ fun k : Fin 4 => waited X c (yr (dup k))) :=
  runs4 (c := c) (f := takeD c) (S := fun _ => st X K c 0) (T := fun k => waiting c (yr (dup k))) (D := fun k => waited X c (yr (dup k)))
    fun k _ => waitYR_step X K c _ _ (k0_off4_wordsbf16 c k) 0 (dup k) (above_zero _)
/-- for what arrives from along `x`, -/
theorem takeX_loop (c : Dev nD) :
    iprop(st X K c 0 ∗ bigSep Finset.univ fun k : Fin 14 => waiting c (xr k))
      ⊢ runs c (each l14 (takeX c)) fun _ => iprop(st X K c 0 ∗ bigSep Finset.univ fun k : Fin 14 => waited X c (xr k)) :=
  runs14 (c := c) (f := takeX c) (S := fun _ => st X K c 0) (T := fun k => waiting c (xr k)) (D := fun k => waited X c (xr k))
    fun k _ => waitXR_step X K c _ _ (k0_off7_wordsbf16 c k) 0 k (above_zero _)
/-- and for the arrival of the own transfers. -/
theorem doneF_loop (c : Dev nD) :
    iprop(st X K c 0 ∗ bigSep Finset.univ fun k : Fin 14 => waiting c (ys (fwd k)))
      ⊢ runs c (each l14 (doneF c)) fun _ => iprop(st X K c 0 ∗ bigSep Finset.univ fun k : Fin 14 => waited X c (ys (fwd k))) :=
  runs14 (c := c) (f := doneF c) (S := fun _ => st X K c 0) (T := fun k => waiting c (ys (fwd k))) (D := fun k => waited X c (ys (fwd k)))
    fun k _ => waitYS_step X K c _ _ (k0_off3_wordsbf16 c k) 0 (fwd k) (above_zero _)
theorem doneD_loop (c : Dev nD) :
    iprop(st X K c 0 ∗ bigSep Finset.univ fun k : Fin 4 => waiting c (ys (dup k)))
      ⊢ runs c (each l4 (doneD c)) fun _ => iprop(st X K c 0 ∗ bigSep Finset.univ fun k : Fin 4 => waited X c (ys (dup k))) :=
  runs4 (c := c) (f := doneD c) (S := fun _ => st X K c 0) (T := fun k => waiting c (ys (dup k))) (D := fun k => waited X c (ys (dup k)))
    fun k _ => waitYS_step X K c _ _ (k0_off4_wordsbf16 c k) 0 (dup k) (above_zero _)
theorem doneX_loop (c : Dev nD) :
    iprop(st X K c 0 ∗ bigSep Finset.univ fun k : Fin 14 => waiting c (xs k))
      ⊢ runs c (each l14 (doneX c)) fun _ => iprop(st X K c 0 ∗ bigSep Finset.univ fun k : Fin 14 => waited X c (xs k)) :=
  runs14 (c := c) (f := doneX c) (S := fun _ => st X K c 0) (T := fun k => waiting c (xs k)) (D := fun k => waited X c (xs k))
    fun k _ => waitXS_step X K c _ _ (k0_off7_wordsbf16 c k) 0 k (above_zero _)

end Cert.Exchange

end
-- ==== Proof.Whole.lean ====
/- The body as a whole: the handshake, the loops and the store of the own half in sequence, from all that a device starts
   with to the result written and every cell closed at zero. -/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F) (K : Dev nD × All → ℕ)

/-! ## What a device starts with and ends with -/

/-- The token of the payment `d` into device `c`'s cell. -/
abbrev tok (c : Dev nD) (a : All) (d : Bool) : sProp 𝕄 := dutyTok EX (cell c a) 0 d

/-- The tokens of the payments device `c` makes: the two signals, and a transfer's two ends for every block. -/
def payToks (c : Dev nD) : sProp 𝕄 :=
  iprop(tok (yp c) bar false ∗ tok (xp c) bar true
    ∗ (bigSep Finset.univ fun k => tok c (.inr (ys k)) false) ∗ (bigSep Finset.univ fun k => tok (yp c) (.inr (yr k)) false)
    ∗ (bigSep Finset.univ fun k => tok c (.inr (xs k)) false) ∗ bigSep Finset.univ fun k => tok (xp c) (.inr (xr k)) false)
/-- The credits of the payments made to it by others: the two signals, and the blocks that arrive. -/
def credits (c : Dev nD) : sProp 𝕄 :=
  iprop(cred (tallyAt (cell c bar) () 2) ∗ (bigSep Finset.univ fun k => sent c (yr k)) ∗ bigSep Finset.univ fun k => sent c (xr k))
/-- Its positions at the start of round `n` of every cell. -/
abbrev positions (c : Dev nD) (n : ℕ) : sProp 𝕄 := bigSep Finset.univ fun a : All => atPos EX (cell c a) n ∅ 0

/-- Its buffers. -/
def sAny (c : Dev nD) : sProp 𝕄 := iprop(∃ f, sPt c Finset.univ f)
def oAny (c : Dev nD) : sProp 𝕄 := iprop(∃ f, oPt c Finset.univ f)

def wholeIn (c : Dev nD) : sProp 𝕄 :=
  iprop(st X K c (owed₀ c) ∗ positions c 0 ∗ payToks c ∗ credits c ∗ xPt X c ∗ sAny c ∗ oAny c)
def wholeOut (c : Dev nD) : sProp 𝕄 :=
  iprop((∃ W, owes (c : Thread nD τ) 0 W) ∗ (bigSep Finset.univ fun a : All => semVal (cell c a) 0) ∗ xPt X c ∗ sAny c ∗ oPt c Finset.univ (outAt X c))

/-! ## Regroupings -/

omit [FloatOps F] in
/-- What the transfers along `y` use up, block by block; -/
theorem needY_intro (c : Dev nD) (f : S2048x512.Idx → Elt F .bf16) :
    iprop(sPt c Finset.univ (sendAt X c) ∗ (bigSep Finset.univ fun k : Fin 18 => oPt (yp c) (ySet (yp c) k) f)
        ∗ (bigSep Finset.univ fun k => tok c (.inr (ys k)) false) ∗ bigSep Finset.univ fun k => tok (yp c) (.inr (yr k)) false)
      ⊢ iprop((bigSep Finset.univ fun k : Fin 14 => needY X c f (fwd k)) ∗ bigSep Finset.univ fun k : Fin 4 => needY X c f (dup k)) := by
  rw [← over18 (needY X c f), show (bigSep Finset.univ (needY X c f) : sProp 𝕄) = _ from
    bigSep_sep' Finset.univ (fun k => sPt c (sSet k) (sendAt X c)) fun k => iprop(oPt (yp c) (ySet (yp c) k) f ∗ tok c (.inr (ys k)) false ∗ tok (yp c) (.inr (yr k)) false),
    bigSep_sep', bigSep_sep', ← send_pieces]

omit [FloatOps F] in
/-- what the forwarding uses up; -/
theorem needRelay_intro (c : Dev nD) (f : S2048x512.Idx → Elt F .bf16) :
    iprop((bigSep Finset.univ fun k : Fin 14 => waiting c (yr (fwd k))) ∗ (bigSep Finset.univ fun k : Fin 14 => oPt (xp c) (xSet (xp c) k) f)
        ∗ (bigSep Finset.univ fun k => tok c (.inr (xs k)) false) ∗ bigSep Finset.univ fun k => tok (xp c) (.inr (xr k)) false)
      ⊢ bigSep Finset.univ fun k : Fin 14 => needRelay c f k := by
  rw [show (bigSep Finset.univ (fun k : Fin 14 => needRelay c f k) : sProp 𝕄) = _ from
    bigSep_sep' Finset.univ (fun k : Fin 14 => waiting c (yr (fwd k))) fun k => iprop(oPt (xp c) (xSet (xp c) k) f ∗ tok c (.inr (xs k)) false ∗ tok (xp c) (.inr (xr k)) false),
    bigSep_sep', bigSep_sep', bigSep_sep']

omit [FloatOps F] in
/-- a family of waits from the credits and the positions. -/
theorem waiting_intro {ι : Type} [Fintype ι] (c : Dev nD) (a : ι → Own) :
    iprop((bigSep Finset.univ fun k => sent c (a k)) ∗ bigSep Finset.univ fun k => atPos EX (cell c (.inr (a k))) 0 ∅ 0)
      ⊢ (bigSep Finset.univ fun k => waiting c (a k) : sProp 𝕄) := Entails.of_eq (bigSep_sep' _ _ _).symm
omit [FloatOps F] in
theorem waited_elim {ι : Type} [Fintype ι] (c : Dev nD) (a : ι → Own) :
    (bigSep Finset.univ fun k => waited X c (a k) : sProp 𝕄)
      ⊢ iprop((bigSep Finset.univ fun k => atPos EX (cell c (.inr (a k))) 1 ∅ 0) ∗ bigSep Finset.univ fun k => pay X c (.inr (a k)) false) :=
  Entails.of_eq (bigSep_sep' _ _ _)

omit [FloatOps F] in
/-- A cell past its one round closes at zero, -/
theorem close_one (c : Dev nD) (a : All) : iprop(env X K ∗ atPos EX (cell c a) 1 ∅ 0) ⊢ |={Set.univ}=> (semVal (cell c a) 0 : sProp 𝕄) := by
  have hc : iprop(cellInv EX (sched X) (K (c, a)) (cell c a) ∗ atPos EX (cell c a) (0 + 1) ∅ 0) ⊢ |={Set.univ}=> (semVal (cell c a) 0 : sProp 𝕄) :=
    Rounds.cell_close EX (sched X) (Set.mem_univ _) (fun h => h) (R := 0 + 1) (duties_later X (cell c a))
  iintro ⟨#He, Hat⟩
  iapply hc
  isplitr; · iapply (env_inv X K c a); iexact He
  iexact Hat
omit [FloatOps F] in
/-- and so do all. -/
theorem close_all (c : Dev nD) : iprop(env X K ∗ positions c 1) ⊢ |={Set.univ}=> (bigSep Finset.univ fun a : All => semVal (cell c a) 0 : sProp 𝕄) :=
  (sep_mono_left (BI.bigSep_of_persistent Finset.univ (env X K))).trans (by
    rw [← bigSep_sep']; exact (bigSep_mono fun a _ => close_one X K c a).trans (bigSep_fupd _ _))

/-! ## The body -/

theorem at_run (c : Dev nD) : wholeIn X K c ⊢ runs c (loopAt c) fun _ => wholeOut X c := by
  unfold wholeIn loopAt payToks credits sAny oAny positions
  rw [overAll (fun a : All => atPos EX (cell c a) 0 ∅ 0), over18 (fun k => atPos EX (cell c (.inr (ys k))) 0 ∅ 0),
    over18 (fun k => atPos EX (cell c (.inr (yr k))) 0 ∅ 0), over18 (fun k => sent c (yr k))]
  iintro ⟨Hst, ⟨HaB, ⟨⟨HaSF, HaSD⟩, HaRF, HaRD⟩, HaXS, HaXR⟩, ⟨HtB, HtB', HtYS, HtYR, HtXS, HtXR⟩, ⟨HcB, ⟨HcF, HcD⟩, HcX⟩, Hx, Hs, ⟨%f, Ho⟩⟩
  ihave Ho := (Entails.of_eq (result_pieces c f)) $$ Ho
  icases Ho with ⟨Hown, HoY, HoX⟩
  iapply (runs_then (head_step X K c))
  isplitl [Hst HaB HcB HtB HtB' HoY HoX Hx Hs]
  · isplitl [Hst]; · iexact Hst
    isplitl [HaB]; · iexact HaB
    isplitl [HcB]; · iexact HcB
    isplitl [HtB]; · iexact HtB
    isplitl [HtB']; · iexact HtB'
    isplitl [HoY]; · unfold yRoom; iexists f; iexact HoY
    isplitl [HoX]; · unfold xRoom; iexists f; iexact HoX
    isplitl [Hx] <;> iassumption
  unfold gotHead yRoom xRoom
  iintro ⟨Hst, HaB, ⟨%g, HrY⟩, ⟨%g', HrX⟩, Hx, Hs⟩
  ihave Hn := (needY_intro X c g) $$ [Hs HrY HtYS HtYR]
  · isplitl [Hs]; · iexact Hs
    isplitl [HrY]; · iexact HrY
    isplitl [HtYS] <;> iassumption
  icases Hn with ⟨HnF, HnD⟩
  iapply (runs_then (sendF_loop X K c g))
  isplitl [Hst HnF]; · (isplitl [Hst] <;> iassumption)
  iintro ⟨Hst, HsF⟩
  iapply (runs_then (sendD_loop X K c g))
  isplitl [Hst HnD]; · (isplitl [Hst] <;> iassumption)
  iintro ⟨Hst, HsD⟩
  iapply (runs_then (own_step X c f))
  isplitl [Hx Hown]; · (isplitl [Hx] <;> iassumption)
  iintro ⟨Hx, Hown⟩
  ihave Hw := (waiting_intro c fun k : Fin 14 => yr (fwd k)) $$ [HcF HaRF]
  · isplitl [HcF] <;> iassumption
  ihave Hn := (needRelay_intro c g') $$ [Hw HrX HtXS HtXR]
  · isplitl [Hw]; · iexact Hw
    isplitl [HrX]; · iexact HrX
    isplitl [HtXS] <;> iassumption
  iapply (runs_then (relay_loop X K c g'))
  isplitl [Hst Hn]; · (isplitl [Hst] <;> iassumption)
  rw [show (bigSep Finset.univ (fun k : Fin 14 => gotRelay c k) : sProp 𝕄) = _ from
    bigSep_sep' Finset.univ (fun k : Fin 14 => atPos EX (cell c (.inr (yr (fwd k)))) 1 ∅ 0) fun k => sent c (xs k)]
  iintro ⟨Hst, HbRF, HsX⟩
  iapply (runs_then (takeD_loop X K c))
  isplitl [Hst HcD HaRD]
  · isplitl [Hst]; · iexact Hst
    iapply (waiting_intro c fun k : Fin 4 => yr (dup k)); isplitl [HcD] <;> iassumption
  iintro ⟨Hst, HwRD⟩
  iapply (runs_then (takeX_loop X K c))
  isplitl [Hst HcX HaXR]
  · isplitl [Hst]; · iexact Hst
    iapply (waiting_intro c fun k : Fin 14 => xr k); isplitl [HcX] <;> iassumption
  iintro ⟨Hst, HwXR⟩
  iapply (runs_then (doneF_loop X K c))
  isplitl [Hst HsF HaSF]
  · isplitl [Hst]; · iexact Hst
    iapply (waiting_intro c fun k : Fin 14 => ys (fwd k)); isplitl [HsF] <;> iassumption
  iintro ⟨Hst, HwSF⟩
  iapply (runs_then (doneD_loop X K c))
  isplitl [Hst HsD HaSD]
  · isplitl [Hst]; · iexact Hst
    iapply (waiting_intro c fun k : Fin 4 => ys (dup k)); isplitl [HsD] <;> iassumption
  iintro ⟨Hst, HwSD⟩
  ihave Hr := (doneX_loop X K c) $$ [Hst HsX HaXS]
  · isplitl [Hst]; · iexact Hst
    iapply (waiting_intro c fun k : Fin 14 => xs k); isplitl [HsX] <;> iassumption
  unfold runs
  iapply wp_fupd
  iapply (wp_wand) $$ Hr
  iintro %u ⟨Hst, HwXS⟩
  ihave HwRD := (waited_elim X c fun k : Fin 4 => yr (dup k)) $$ HwRD
  ihave HwXR := (waited_elim X c fun k : Fin 14 => xr k) $$ HwXR
  ihave HwSF := (waited_elim X c fun k : Fin 14 => ys (fwd k)) $$ HwSF
  ihave HwSD := (waited_elim X c fun k : Fin 4 => ys (dup k)) $$ HwSD
  ihave HwXS := (waited_elim X c fun k : Fin 14 => xs k) $$ HwXS
  icases HwRD with ⟨HbRD, HpRD⟩
  icases HwXR with ⟨HbXR, HpXR⟩
  icases HwSF with ⟨HbSF, HpSF⟩
  icases HwSD with ⟨HbSD, HpSD⟩
  icases HwXS with ⟨HbXS, HpXS⟩
  unfold st
  icases Hst with ⟨#He, HO⟩
  imod (close_all X K c) $$ [HaB HbSF HbSD HbRF HbRD HbXS HbXR] with Hz
  · isplitr; · iexact He
    unfold positions
    rw [overAll (fun a : All => atPos EX (cell c a) 1 ∅ 0), over18 (fun k => atPos EX (cell c (.inr (ys k))) 1 ∅ 0),
      over18 (fun k => atPos EX (cell c (.inr (yr k))) 1 ∅ 0)]
    isplitl [HaB]; · iexact HaB
    isplitl [HbSF HbSD HbRF HbRD]
    · isplitl [HbSF HbSD]
      · isplitl [HbSF] <;> iassumption
      isplitl [HbRF] <;> iassumption
    isplitl [HbXS] <;> iassumption
  imodintro
  unfold wholeOut
  isplitl [HO]; · iexact HO
  isplitl [Hz]; · iexact Hz
  isplitl [Hx]; · iexact Hx
  isplitl [HpSF HpSD]
  · unfold sAny; iexists sendAt X c
    rw [send_pieces, over18]
    isplitl [HpSF]; · iexact HpSF
    iexact HpSD
  rw [result_pieces, over18]
  isplitl [Hown]; · iexact Hown
  isplitl [HpXS HpRD]
  · isplitl [HpXS]; · iexact HpXS
    iexact HpRD
  iexact HpXR

attribute [local irreducible] loopAt in
/-- The body is its statements on the device it reads. -/
theorem whole_run (c : Dev nD) : wholeIn X K c ⊢ runs c loop fun _ => wholeOut X c := by
  unfold loop runs
  simp only [Prog.lift, Prog.bind_op, Prog.bind_ret, wp_deviceId]
  have h := at_run X K c
  unfold runs wpE at h
  exact h

end Cert.Exchange

end
-- ==== Proof.Credit.lean ====
/- The credits at launch. What all the devices owe device `c`'s cell of a semaphore is what its partner along `y` owes there
   and what its partner along `x` does; so device `c` starts with two units at its barrier cell and one transfer at each
   cell at which it receives. -/
module

public import proofs.«01_k».proof.Proof.Whole

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed to a cell -/

/-- How many transfers a device makes to its partner's cell of a semaphore, along `y` and along `x`. -/
def cntY : Own → ℕ
  | .inl (.inr _) => 1
  | _ => 0
def cntX : Own → ℕ
  | .inr (.inr _) => 1
  | _ => 0
/-- What it owes there. -/
def amtY : All → ℕ
  | .inl _ => 1
  | .inr a => N * cntY a
def amtX : All → ℕ
  | .inl _ => 1
  | .inr a => N * cntX a

/-- How many elements of a list go to the semaphore `a`. -/
def hits {ι : Type} (b : ι → Own) (a : Own) (l : List ι) : ℕ := (l.map fun i => if a = b i then 1 else 0).sum

theorem tally_cell (c n : Dev nD) (a b : All) (k : ℕ) :
    (tallyAt (cell n b) () k : CellTallies nD τ sig Unit) (cell c a) () = if c = n ∧ a = b then k else 0 := by
  rw [tallyAt_apply]
  by_cases h : c = n ∧ a = b
  · rw [if_pos h, if_pos ⟨by rw [h.1, h.2], rfl⟩]
  · rw [if_neg h, if_neg fun h' => h (cell_inj h'.1)]

/-- What a list of transfers to device `n` owes a cell: nothing at another device, and one amount per transfer to it. -/
theorem due_cell {ι : Type} (c n : Dev nD) (a : Own) (b : ι → Own) (l : List ι) :
    due (fun i => cell n (.inr (b i))) l (cell c (.inr a)) () = if c = n then N * hits b a l else 0 := by
  unfold hits
  induction l with
  | nil => rw [due_nil, List.map_nil, List.sum_nil, Nat.mul_zero, ite_self]; rfl
  | cons i l ih =>
    rw [due_cons, Pi.add_apply, Finsupp.add_apply, ih, tally_cell, List.map_cons, List.sum_cons]
    by_cases h : c = n
    · by_cases h' : a = b i
      · rw [if_pos h, if_pos h, if_pos ⟨h, by rw [h']⟩, if_pos h', Nat.mul_add, Nat.mul_one, Nat.add_comm]
      · rw [if_pos h, if_pos h, if_neg fun h'' => h' (Sum.inr_injective h''.2), if_neg h', Nat.add_zero, Nat.zero_add]
    · rw [if_neg h, if_neg h, if_neg fun h'' => h h''.1]
theorem due_bar {ι : Type} (c n : Dev nD) (b : ι → Own) (l : List ι) : due (fun i => cell n (.inr (b i))) l (cell c bar) () = 0 := by
  induction l with
  | nil => rfl
  | cons i l ih => rw [due_cons, Pi.add_apply, Finsupp.add_apply, ih, tally_cell, if_neg fun h => Sum.inl_ne_inr h.2]

theorem hits_y : ∀ a : Own, hits (fun k => yr (fwd k)) a l14 + hits (fun k => yr (dup k)) a l4 = cntY a := by decide
theorem hits_x : ∀ a : Own, hits (fun k => xr k) a l14 = cntX a := by decide

/-- What device `d` owes device `c`'s cell. -/
theorem owed_cell (d c : Dev nD) (a : All) :
    owed₀ d (cell c a) () = (if c = yp d then amtY a else 0) + if c = xp d then amtX a else 0 := by
  unfold owed₀ owed₁ owed₂
  simp only [Pi.add_apply, Finsupp.add_apply, tally_cell]
  rcases a with u | a
  · rw [due_bar c (xp d) fun k => xr k, due_bar c (yp d) fun k => yr (dup k), due_bar c (yp d) fun k => yr (fwd k)]
    simp only [amtY, amtX, bar, and_true, Nat.zero_add]
    exact Nat.add_comm _ _
  · rw [due_cell c (xp d) a fun k => xr k, due_cell c (yp d) a fun k => yr (dup k), due_cell c (yp d) a fun k => yr (fwd k)]
    simp only [reduceCtorEq, and_false, if_false, Nat.add_zero]
    unfold amtY amtX
    dsimp only
    rw [← hits_y a, ← hits_x a, Nat.mul_add]
    split_ifs <;> omega

theorem eq_yp (c d : Dev nD) : (c = yp d) = (d = yp c) := propext ⟨fun h => by rw [h, yp_yp], fun h => by rw [h, yp_yp]⟩
theorem eq_xp (c d : Dev nD) : (c = xp d) = (d = xp c) := propext ⟨fun h => by rw [h, xp_xp], fun h => by rw [h, xp_xp]⟩

/-- What all devices owe it. -/
theorem launch_cell (c : Dev nD) (a : All) :
    tallyOn (cell c a) (launchCredit (Pipeline.owing owed₀) 0 (cell c a)) = (tallyAt (cell c a) () (amtY a + amtX a) : CellTallies nD τ sig Unit) := by
  unfold tallyAt; refine congrArg _ (Finsupp.ext fun u => ?_); cases u
  rw [Pipeline.launchCredit_owing, Finsupp.single_eq_same, Finset.sum_congr rfl fun d _ => owed_cell d c a, Finset.sum_add_distrib]
  simp only [eq_yp, eq_xp]
  rw [Finset.sum_ite_eq' Finset.univ (yp c) fun _ => amtY a, Finset.sum_ite_eq' Finset.univ (xp c) fun _ => amtX a,
    if_pos (Finset.mem_univ _), if_pos (Finset.mem_univ _)]

omit [FloatOps F] in
/-- A device's launch credit holds its credits. -/
theorem credits_intro (c : Dev nD) : (Pipeline.launchCred owed₀ c : sProp 𝕄) ⊢ credits c := by
  have hsub : (Finset.univ : Finset All).map ⟨semAt, semAt_injective⟩ ⊆ Finset.univ := Finset.subset_univ _
  have h : (Pipeline.launchCred owed₀ c : sProp 𝕄) ⊢ bigSep Finset.univ fun a : All => cred (tallyAt (cell c a) () (amtY a + amtX a)) := by
    unfold Pipeline.launchCred
    refine (bigSep_subset hsub).trans ?_
    rw [bigSep_map]
    exact Entails.of_eq (bigSep_congr fun a _ => congrArg cred (launch_cell c a))
  refine h.trans ?_
  rw [overAll]
  unfold credits
  iintro ⟨HB, ⟨-, HY⟩, -, HX⟩
  isplitl [HB]; · iexact HB
  isplitl [HY]; · iexact HY
  iexact HX

end Cert.Exchange

end
-- ==== Proof.Deal.lean ====
/- How the exchange's ghost state is made at launch and dealt out. Every cell starts at round 0, and a token is minted for
   each payment into it; the positions stay with the cell's device, and the tokens go to the device that pays: a partner's
   for the two signals and for the blocks that arrive, the device itself for the blocks it sends. -/
module

public import proofs.«01_k».proof.Proof.Credit

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F)

/-! ## What is made -/

/-- All cells, -/
def cellAt (ca : Dev nD × All) : GSem nD τ sig := cell ca.1 ca.2
theorem cellAt_injective : Function.Injective cellAt := fun _ _ h => Prod.ext (cell_inj h).1 (cell_inj h).2
def allCells : Finset (GSem nD τ sig) := Finset.univ.map ⟨cellAt, cellAt_injective⟩

/-- and the payments into a device's cells: two at the barrier, and one at each block's. -/
abbrev Pays : Type := Bool ⊕ Own
def payTo : Pays → All × Bool
  | .inl d => (bar, d)
  | .inr a => (.inr a, false)
theorem payTo_injective : Function.Injective payTo := by
  rintro (d | a) (d' | a') h
  · exact congrArg Sum.inl (congrArg Prod.snd h)
  · exact absurd (congrArg Prod.fst h) Sum.inl_ne_inr
  · exact absurd (congrArg Prod.fst h) Sum.inr_ne_inl
  · exact congrArg Sum.inr (Sum.inr_injective (congrArg Prod.fst h))
def tokAt (cp : Dev nD × Pays) : GSem nD τ sig × ℕ × Bool := (cell cp.1 (payTo cp.2).1, 0, (payTo cp.2).2)
theorem tokAt_injective : Function.Injective tokAt := fun p q h => by
  have h₁ := cell_inj (congrArg Prod.fst h)
  exact Prod.ext h₁.1 (payTo_injective (Prod.ext h₁.2 (congrArg (fun x : GSem nD τ sig × ℕ × Bool => x.2.2) h)))
def allToks : Finset (GSem nD τ sig × ℕ × Bool) := Finset.univ.map ⟨tokAt, tokAt_injective⟩

/-- The tokens of the payments into device `c`'s cells. -/
def ownToks (c : Dev nD) : sProp 𝕄 := bigSep Finset.univ fun p : Pays => tok c (payTo p).1 (payTo p).2

/-- What each device gets of it. -/
def dealt (c : Dev nD) : sProp 𝕄 :=
  iprop((bigSep Finset.univ fun a : All => roundState EX (sched X) (cell c a) 0)
    ∗ (bigSep Finset.univ fun a : All => reached EX (cell c a) 0) ∗ positions c 0 ∗ ownToks c)

omit [FloatOps F] in
theorem make : BI.own (EX (initOf allCells allToks)) ⊢ (|==> bigSep Finset.univ (dealt X) : sProp 𝕄) := by
  have hC (Φ : GSem nD τ sig → sProp 𝕄) : bigSep allCells Φ = bigSep Finset.univ fun c : Dev nD => bigSep Finset.univ fun a : All => Φ (cell c a) := by
    unfold allCells; rw [bigSep_map, bigSep_univ_prod]; rfl
  have hT : bigSep allToks (fun x => (dutyTok EX x.1 x.2.1 x.2.2 : sProp 𝕄)) = bigSep Finset.univ fun c : Dev nD => ownToks c := by
    unfold allToks; rw [bigSep_map, bigSep_univ_prod]; rfl
  iintro H
  imod (Rounds.fund EX (sched X) allCells allToks) $$ H with ⟨Hs, Hr, Ha, Ht⟩
  imodintro
  ihave Hs := (Entails.of_eq (hC fun g => roundState EX (sched X) g 0)) $$ Hs
  ihave Hr := (Entails.of_eq (hC fun g => reached EX g 0)) $$ Hr
  ihave Ha := (Entails.of_eq (hC fun g => atPos EX g 0 ∅ 0)) $$ Ha
  ihave Ht := (Entails.of_eq hT) $$ Ht
  unfold dealt; simp only [bigSep_sep']
  isplitl [Hs]; · iexact Hs
  isplitl [Hr]; · iexact Hr
  isplitl [Ha] <;> iassumption

/-! ## The semaphores -/

omit [FloatOps F] in
/-- The one semaphore that outlives the kernel is the barrier's. -/
theorem unscoped_bar (c : Dev nD) : (unscopedSems0 c : sProp 𝕄) = semVal (cell c bar) 0 := by
  unfold unscopedSems0; rw [bigSep_eq_bigSepL_of_eq [SemLoc.reg barS] (by decide) (by decide)]; rfl

omit [FloatOps F] in
/-- All counters of the exchange: the kernel's own semaphores, and the barrier's. -/
theorem counters (c : Dev nD) :
    (bigSep Finset.univ fun a : All => semVal (cell c a) 0 : sProp 𝕄)
      = iprop(unscopedSems0 c ∗ Pipeline.ownSems0 (Ix := Unit) (Name := ℕ) (U := UU) (Lvl := ℕ) (Val := Elt F) (τ := τ) ownSem c) := by
  rw [unscoped_bar, bigSep_univ_sum,
    show (bigSep Finset.univ fun a : Unit => semVal (cell c (.inl a)) 0 : sProp 𝕄) = semVal (cell c bar) 0 from bigSep_univ_eq_bigSepL [()] (by decide) (by decide) _]
  rfl

/-! ## The invariants, and the deal -/

/-- What is known of every cell: its invariant at some name, and that it has reached its round. -/
def records (K : Dev nD × All → ℕ) : sProp 𝕄 :=
  iprop((bigSep Finset.univ fun ca : Dev nD × All => cellInv EX (sched X) (K ca) (cell ca.1 ca.2))
    ∗ bigSep Finset.univ fun ca : Dev nD × All => reached EX (cell ca.1 ca.2) 0)
instance records_persistent (K : Dev nD × All → ℕ) : BI.Persistent (records X K) := by unfold records; infer_instance

/-- What each device starts with of the exchange. -/
def begins (c : Dev nD) : sProp 𝕄 := iprop(∃ K, records X K ∗ positions c 0 ∗ payToks c)

/-- What device `c` holds once its cells' invariants are made. -/
def made (c : Dev nD) : sProp 𝕄 :=
  iprop((bigSep Finset.univ fun a : All => iprop(∃ κ : ℕ, cellInv EX (sched X) κ (cell c a)))
    ∗ (bigSep Finset.univ fun a : All => reached EX (cell c a) 0) ∗ positions c 0 ∗ ownToks c)

omit [FloatOps F] in
theorem made_intro (c : Dev nD) :
    iprop(Pipeline.ownSems0 (Ix := Unit) (Name := ℕ) (U := UU) (Lvl := ℕ) (Val := Elt F) (τ := τ) ownSem c ∗ unscopedSems0 c ∗ dealt X c)
      ⊢ |={Set.univ}=> made X c := by
  have hinv : iprop((bigSep Finset.univ fun a : All => semVal (cell c a) 0) ∗ bigSep Finset.univ fun a : All => roundState EX (sched X) (cell c a) 0)
      ⊢ (|={Set.univ}=> bigSep Finset.univ fun a : All => iprop(∃ κ : ℕ, cellInv EX (sched X) κ (cell c a)) : sProp 𝕄) := by
    rw [← bigSep_sep']
    exact (bigSep_mono fun a _ => (Rounds.body_intro EX (sched X) (cell c a)).trans inv_alloc).trans (bigSep_fupd _ _)
  unfold dealt made
  iintro ⟨Ho, Hu, Hs, Hrest⟩
  imod hinv $$ [Ho Hu Hs] with HI
  · isplitl [Ho Hu]
    · rw [counters]; isplitl [Hu] <;> iassumption
    iexact Hs
  imodintro
  isplitl [HI] <;> iassumption

omit [FloatOps F] in
/-- The tokens change hands: those of the barrier and of the receiving cells go to the partner. -/
theorem tokens_dealt : (bigSep Finset.univ fun c : Dev nD => (ownToks c : sProp 𝕄)) ⊢ bigSep Finset.univ fun c : Dev nD => payToks c := by
  have ho : ∀ c : Dev nD, (ownToks c : sProp 𝕄) = iprop((tok c bar false ∗ tok c bar true)
      ∗ ((bigSep Finset.univ fun k => tok c (.inr (ys k)) false) ∗ bigSep Finset.univ fun k => tok c (.inr (yr k)) false)
      ∗ (bigSep Finset.univ fun k => tok c (.inr (xs k)) false) ∗ bigSep Finset.univ fun k => tok c (.inr (xr k)) false) := fun c => by
    unfold ownToks
    rw [bigSep_univ_sum, bigSep_univ_sum, bigSep_univ_sum, bigSep_univ_sum, bigSep_univ_eq_bigSepL [false, true] (by decide) (by decide)]
    rfl
  unfold payToks
  rw [bigSep_congr fun c _ => ho c]
  simp only [bigSep_sep']
  rw [bigSep_univ_equiv ySwap fun c : Dev nD => (tok c bar false : sProp 𝕄), bigSep_univ_equiv xSwap fun c : Dev nD => (tok c bar true : sProp 𝕄),
    bigSep_univ_equiv ySwap fun c : Dev nD => (bigSep Finset.univ fun k => tok c (.inr (yr k)) false : sProp 𝕄),
    bigSep_univ_equiv xSwap fun c : Dev nD => (bigSep Finset.univ fun k => tok c (.inr (xr k)) false : sProp 𝕄)]
  iintro ⟨⟨H1, H2⟩, ⟨H3, H4⟩, H5, H6⟩
  isplitl [H1]; · iexact H1
  isplitl [H2]; · iexact H2
  isplitl [H3]; · iexact H3
  isplitl [H4]; · iexact H4
  isplitl [H5]; · iexact H5
  iexact H6

omit [FloatOps F] in
theorem begins_intro (K : Dev nD × All → ℕ) (c : Dev nD) : iprop(records X K ∗ positions c 0 ∗ payToks c) ⊢ begins X c := by
  unfold begins; iintro H; iexists K; iexact H

omit [FloatOps F] in
/-- From what every device holds, what each starts with. -/
theorem deal : (bigSep Finset.univ fun c : Dev nD => made X c) ⊢ bigSep Finset.univ (begins X) := by
  unfold made
  simp only [bigSep_sep']
  rw [← bigSep_univ_prod fun ca : Dev nD × All => iprop(∃ κ : ℕ, cellInv EX (sched X) κ (cell ca.1 ca.2)),
    ← bigSep_univ_prod fun ca : Dev nD × All => (reached EX (cell ca.1 ca.2) 0 : sProp 𝕄)]
  iintro ⟨HI, #HR, Ha, Ht⟩
  ihave HK := (BI.bigSep_exists_pi Finset.univ fun (ca : Dev nD × All) (κ : ℕ) => (cellInv EX (sched X) κ (cell ca.1 ca.2) : sProp 𝕄)) $$ HI
  icases HK with ⟨%K, #HI⟩
  ihave Ht := (tokens_dealt (F := F)) $$ Ht
  have hgive : iprop(records X K ∗ bigSep Finset.univ fun c : Dev nD => iprop(positions c 0 ∗ payToks c)) ⊢ bigSep Finset.univ (begins X) :=
    (sep_mono_left (BI.bigSep_of_persistent Finset.univ (records X K))).trans (by
      rw [← bigSep_sep']
      exact bigSep_mono fun c _ => begins_intro X K c)
  iapply hgive
  isplitr
  · unfold records; isplitl <;> iassumption
  rw [bigSep_sep']
  isplitl [Ha] <;> iassumption

omit [FloatOps F] in
/-- The step at launch, all devices' semaphores at once. -/
theorem launch_deal :
    (bigSep Finset.univ fun c => iprop(Pipeline.ownSems0 (Ix := Unit) (Name := ℕ) (U := UU) (Lvl := ℕ) (Val := Elt F) (τ := τ) ownSem c ∗ unscopedSems0 c ∗ dealt X c) : sProp 𝕄)
      ⊢ |={Set.univ}=> bigSep Finset.univ (begins X) :=
  ((bigSep_mono fun c _ => made_intro X c).trans (bigSep_fupd _ _)).trans (BI.fupd_mono (deal X))

end Cert.Exchange

end
-- ==== Proof.Launch.lean ====
/- The whole run. The launch gives every device its staged block, the room for its result, and its share of the ghost
   state; the kernel's body is `whole_run`; so the program ends on every schedule, with the result `outAt` at each device
   (`run_main`). -/
module

public import proofs.«01_k».proof.Proof.Deal
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the launch -/

def s₀ : MemSt nD τ sig (Elt F) := ⟨m, fun _ => 0, ρ⟩

/-- Every device's operand, as staged. -/
def staged : Blocks F := fun c => (win0_0.blk (0 : Fin 1)).view.read (Elt F) (m ((c : Thread nD τ).loc main_arg0))

theorem cfg0_N : cfg0.N = 1 := N_0
/-- The grid's one point. -/
def pt : Fin cfg0.N := t0_0
theorem eq_pt (t : Fin cfg0.N) : t = pt := fin_N0 t

/-- What a device holds before its kernel and what it holds after, apart from the windows. -/
def start (c : Dev nD) : sProp 𝕄 := iprop(begins (staged m) c ∗ credits c ∗ levelsAt)
def Φ₀ (c : Dev nD) : sProp 𝕄 := iprop(start m c ∗ sAny c)
def Φ₁ (c : Dev nD) : sProp 𝕄 := iprop(sAny c ∗ bigSep Finset.univ fun a : All => semVal (cell c a) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => staged m c
    | ⟨1, _⟩ => outAt (staged m) c
  Φ t := match t with
    | ⟨0, _⟩ => Φ₀ m c
    | ⟨_ + 1, _⟩ => Φ₁ c
  q _ := fullShare
  owed t := match t with
    | ⟨0, _⟩ => owed₀ c
    | ⟨_ + 1, _⟩ => 0

theorem fetch_in (t : Fin cfg0.N) : (cfg0.win (0 : Fin 2)).fetch t = true := by rw [eq_pt t]; rfl

omit [FloatOps F] in
/-- To hold a whole buffer at given contents. -/
theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- Buffer `b` of device `c` holds `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-! ## The body -/

def bodyIn (c : Dev nD) : sProp 𝕄 :=
  iprop(Φ₀ m c ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))
def bodyOut (c : Dev nD) : sProp 𝕄 :=
  iprop(Φ₁ c ∗ (dats m ρ 0 c).owesAt () pt.succ ∗ stg c cc0_stg0_0 (staged m c) ∗ stg c cc0_stg1_0 (outAt (staged m) c))

theorem before_in (c : Dev nD) (d) : (dats m ρ 0 c).before (0 : Fin 2) pt d = staged m c := by
  unfold Dat.before; rw [if_pos (fetch_in pt)]; rfl

theorem body_in (c : Dev nD) : bodyIn m ρ c ⊢ iprop(∃ K, wholeIn (staged m) K c) := by
  unfold bodyIn Φ₀ start begins wholeIn st env records Dat.owesAt Pipeline.owesWithin oAny
  rw [show (dats m ρ 0 c).owed pt.castSucc = owed₀ c from rfl]
  iintro ⟨⟨⟨⟨%K, ⟨#HI, #HR⟩, Hp, Ht⟩, Hc, #HL⟩, Hs⟩, ⟨%W, -, HO⟩, ⟨%d, %f, %hf, Hx⟩, ⟨%d', %f', -, Ho⟩⟩
  rw [before_in] at hf; subst hf
  iexists K
  isplitl [HO]
  · isplitr
    · isplitl; · iexact HI
      isplitl; · iexact HR
      iexact HL
    iexists W; iexact HO
  isplitl [Hp]; · iexact Hp
  isplitl [Ht]; · iexact Ht
  isplitl [Hc]; · iexact Hc
  isplitl [Hx]; · iexact Hx
  isplitl [Hs]; · iexact Hs
  iexists f'; iexact Ho

theorem body_out (c : Dev nD) : wholeOut (staged m) c ⊢ bodyOut m ρ c := by
  unfold wholeOut bodyOut Φ₁ Dat.owesAt Pipeline.owesWithin
  rw [show (dats m ρ 0 c).owed pt.succ = 0 from rfl]
  iintro ⟨⟨%W, HO⟩, Hv, Hx, Hs, Ho⟩
  isplitl [Hv Hs]
  · isplitl [Hs] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem body_runs (c : Dev nD) : bodyIn m ρ c ⊢ runs c loop fun _ => bodyOut m ρ c := by
  iintro H
  ihave H := (body_in m ρ c) $$ H
  icases H with ⟨%K, H⟩
  ihave H := (whole_run (staged m) K c) $$ H
  iapply wp_wand $$ H
  iintro %u H
  iapply (body_out m ρ c) $$ H

attribute [local irreducible] cc0_body in
set_option maxRecDepth 4000 in
/-- The kernel's body runs from what the launch provides to what it collects. -/
theorem body_obligation (c : Dev nD) : BodyObligation (dats (F := F) m ρ 0 c) (defs₀ (F := F)) 𝒱₀ () Set.univ := fun t => by
  rw [eq_pt t]
  rw [bigSep_W0, bigSep_W0]
  simp only [owns_whole]
  show bodyIn m ρ c ⊢ wp frame (wpE (defs₀ (F := F)) 𝒱₀ c none) Set.univ
    (cc0_body xM (Memref.isWhole_whole _) oM (Memref.isWhole_whole _) sM (Memref.isWhole_whole _) cc0_scratch1 cc0_scratch2 cc0_scratch3 cc0_scratch4)
    (fun _ => bodyOut m ρ c)
  rw [body_eq_loop]
  exact body_runs m ρ c

/-! ## The launch's side conditions -/

theorem ownSemFacts : Pipeline.OwnSemFacts cfg0.spec ownSem := by
  refine ⟨?_, fun a b h => Sum.inr_injective (semAt_injective h), ?_⟩
  · rintro ((k | k) | (k | k)) <;> (revert k; decide)
  · intro a w s h
    have h' := congrArg role h
    rw [show ownSem a = semAt (.inr a) from rfl, role_semAt] at h'
    fin_cases w <;> fin_cases s <;> exact absurd h' (by simp [role])

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

omit [FloatOps F] in
theorem start_intro (c : Dev nD) :
    iprop(Pipeline.unscopedRestP Pipeline.Prefetch.none cfg0.spec c (fun b => m ((c : Thread nD τ).loc b)) ∗ levAts L lev
        ∗ Pipeline.launchCred owed₀ c ∗ prngReg c (ρ c) ∗ begins (staged m) c)
      ⊢ |={Set.univ}=> iprop(start m c ∗ emp) := by
  iintro ⟨-, HL, Hc, -, Hb⟩
  ihave Hc := (credits_intro c) $$ Hc
  imodintro
  unfold start levelsAt
  isplitl
  · isplitl [Hb]; · iexact Hb
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ sAny
  iintro ⟨Hs, -, ⟨%f, Hr⟩⟩
  isplitl [Hs]; · iexact Hs
  iexists f; iexact Hr

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ c from rfl, scopedRest0_eq]
  unfold Φ₁ sAny
  rw [counters]
  iintro ⟨⟨%f, Hr⟩, Hu, Ho⟩
  isplitl [Hu]; · iexact Hu
  isplitl [Ho]; · iexact Ho
  iexists f; iexact Hr

theorem waits (c : Dev nD) : (levAts L lev : sProp 𝕄) ⊢ Pipeline.cellsWaits cfgs (dats m ρ) () 0 c :=
  Pipeline.cellsWaits_intro cfgs (dats m ρ) () 0 c fun w s t =>
    levels_mayWait c _ 0 (by fin_cases w <;> fin_cases s <;> decide) (by
      rcases t with ⟨_ | _, ht⟩
      · exact above_owed₀ c
      · exact above_zero 0)

/-! ## The run -/

/-- What window `w`'s array holds after the run, -/
def finalA (c : Dev nD) (w : Fin cfg0.W) : Buf (Elt F) ((cfg0.win w).arr.view.loc (c : Thread nD τ)) := (dats m ρ 0 c).arrAt w cfg0.N

/-- and that it does, at every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero the program ends on every fair schedule, over any float values: the arrays
    then hold `finalA`, and every counter is back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lev) (hL := L_of_ne) (hwaits := waits m ρ)
    (G := dealt (staged m)) (G' := begins (staged m)) (u₀ := u₀)
    (hu₀ := by
      unfold u₀
      iintro Hu
      ihave H := (ownU_pair _ _) $$ Hu
      icases H with ⟨HP, HX⟩
      imod (make (staged m)) $$ HX with HG
      imodintro
      isplitl [HP] <;> iassumption)
    (hglob := launch_deal (staged m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand keeps its contents. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Result.lean ====
/- What the arrays hold after the run: the operand what it held, and each device's result `outAt` of the operands. -/
module

public import proofs.«01_k».proof.Proof.Launch
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The block a device stages is its whole operand. -/
theorem staged_eq (c : Dev nD) : staged m c = (m ((c : Thread nD τ).loc main_arg0) : S1024x1024.Idx → Elt F .bf16) := by
  unfold staged
  refine funext fun (i : S1024x1024.Idx) => congrArg (m ((c : Thread nD τ).loc main_arg0)) ?_
  funext a
  refine Fin.ext ?_
  match a with
  | ⟨0, _⟩ => show 0 * 1024 + 1 * (i 0).val = (i 0).val; omega
  | ⟨1, _⟩ => show 0 * 1024 + 1 * (i 1).val = (i 1).val; omega

/-- The one block of the result's window is the whole array. -/
theorem read_out (t : Fin cfg0.N) (f : S2048x512.Idx → Elt F .bf16) : ((cfg0.win 1).blk t).view.read (Elt F) f = f := by
  obtain rfl := eq_pt t
  refine funext fun (i : S2048x512.Idx) => congrArg f ?_
  funext a
  refine Fin.ext ?_
  match a with
  | ⟨0, _⟩ => show 0 * 2048 + 1 * (i 0).val = (i 0).val; omega
  | ⟨1, _⟩ => show 0 * 512 + 1 * (i 1).val = (i 1).val; omega

/-- What the launch writes back is `outAt`. -/
theorem flushed_out (c : Dev nD) (t : Fin cfg0.N) :
    (dats m ρ 0 c).flushed 1 t = ((cfg0.win 1).blk t).view.read (Elt F) (outAt (staged m) c) := by
  rw [read_out]; obtain rfl := eq_pt t
  unfold Dat.flushed
  rfl

/-- It covers every element. -/
theorem covered (i : S2048x512.Idx) : ∃ t : Fin cfg0.N, (cfg0.win 1).flush t = true ∧ i ∈ ((cfg0.win 1).blk t).view.set := by
  refine ⟨pt, rfl, ?_⟩
  show i ∈ ((View.whole main_v1).slice (win0_1.rect pt)).set
  rw [View.set_slice_whole, Rect.set_eq_univ_of_whole]
  · exact Finset.mem_univ _
  · intro a; fin_cases a <;> exact ⟨rfl, rfl, rfl⟩

/-- So the result array ends at `outAt`. -/
theorem finalA_out (c : Dev nD) : finalA m ρ c 1 = outAt (staged m) c :=
  (dats m ρ 0 c).arrAt_eq_of_cover 1 (outAt (staged m) c) (fun t _ => flushed_out m ρ c t) covered

end Cert.Exchange

end
-- ==== Proof.Value.lean ====
/- The equation: where the devices' operands are the row halves of one 2048 x 1024 array, by `y` coordinate, the results
   are its column halves. -/
module

public import proofs.«01_k».proof.Proof.Blocks
public import Idealize.ShloMosaic.Lib.Layout

@[expose] public section

noncomputable section

namespace Cert.Exchange

open Cert.KernelIdeal Cert.KernelIdeal.Gen
open Idealize.ShloMosaic
open Idealize.ShloMosaic.TcCoe

variable {F : FTy → Type} [FloatOps F]

/-- The whole array's shape. -/
abbrev Whole : Shape := ⟨2, ![2048, 1024]⟩

/-- Which half a device holds, of the rows and of the columns: the one its `y` coordinate says. -/
theorem rowHalf (c : Dev nD) : ∀ b, (Layout.meshBlock [2, 2, 4] ![[1], []] c (h := by decide) b).val = ![yc c, 0] b := by revert c; decide
theorem colHalf (c : Dev nD) : ∀ b, (Layout.meshBlock [2, 2, 4] ![[], [1]] c (h := by decide) b).val = ![0, yc c] b := by revert c; decide

/-- The block at row `r` comes from a device that holds row `r`. -/
theorem yc_srcOf (c : Dev nD) (r : ℕ) (hr : r < 2048) : yc (srcOf c r) = r / 1024 := by
  have hy := yc_cases c
  unfold srcOf
  split
  · omega
  · split
    · rw [yc_yp, yc_xp]; omega
    · rw [yc_yp]; omega

/-- Where each operand is the half of the whole array that its device holds of the rows, each result is its half of the
    columns. -/
theorem outAt_eq (X : Blocks F) (V : Whole.Idx → Elt F .bf16)
    (hX : ∀ c, X c = Layout.blockN S1024x1024 Whole (Layout.meshBlock [2, 2, 4] ![[1], []] c) V) (c : Dev nD) :
    outAt X c = Layout.blockN S2048x512 Whole (Layout.meshBlock [2, 2, 4] ![[], [1]] c) V := by
  funext i
  have h0 : (i 0).val < 2048 := (i 0).isLt
  have h1 : (i 1).val < 512 := (i 1).isLt
  have hy := yc_cases c
  unfold outAt
  rw [hX, Layout.blockN_apply, Layout.blockN_apply]
  congr 1
  funext a
  refine Fin.ext ?_
  rw [Layout.TilesN.idx_val, Layout.TilesN.idx_val]
  match a with
  | ⟨0, _⟩ =>
    refine (congrArg₂ (· + ·) (congrArg (· * 1024) (rowHalf (srcOf c (i 0).val) 0)) rfl).trans
      (Eq.trans ?_ (congrArg₂ (· + ·) (congrArg (· * 2048) (colHalf c 0)) rfl).symm)
    show yc (srcOf c (i 0).val) * 1024 + (i 0).val % 1024 = 0 * 2048 + (i 0).val
    rw [yc_srcOf c _ h0]; omega
  | ⟨1, _⟩ =>
    refine (congrArg₂ (· + ·) (congrArg (· * 1024) (rowHalf (srcOf c (i 0).val) 1)) rfl).trans
      (Eq.trans ?_ (congrArg₂ (· + ·) (congrArg (· * 512) (colHalf c 1)) rfl).symm)
    show 0 * 1024 + (512 * yc c + (i 1).val) % 1024 = yc c * 512 + (i 1).val
    omega

end Cert.Exchange

end
-- ==== Proof.Reference.lean ====
/- The reference: a program of no operations, whose result is its argument. -/
module

public import proofs.«01_k».proof.Proof.Gen.ReferenceIdeal
public import Idealize.ShloMosaic.Lib.StableHlo.Run

@[expose] public section

noncomputable section

namespace Cert.Reference

open Cert.ReferenceIdeal Cert.ReferenceIdeal.Gen
open Idealize.ShloMosaic Idealize.ShloMosaic.TcCoe Idealize.ShloMosaic.StableHlo Idealize.SL.Sem

variable {F : FTy → Type} [FloatOps F]

/-- It ends, its argument as it was. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_arg0) = m ((c : Thread nD τ).loc main_arg0) :=
  (θ_run defs _ _).mono (fun _ h c => h c main_arg0)
    (run_seq (by decide) (by decide) defs main (fun _ => []) (fun _ => rfl) (fun _ => trivial) m ρ)

end Cert.Reference

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Result
public import proofs.«01_k».proof.Proof.Value
public import proofs.«01_k».proof.Proof.Reference
public import Idealize.ShloMosaic.Lib.Quiescent

@[expose] public section

noncomputable section

namespace Cert.Proof

open Idealize.ShloMosaic Idealize.ShloMosaic.TcCoe Idealize.SL.Sem

/-- The kernel ends on every schedule, its argument unchanged, all counters at zero: over any float values; -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0))
      ∧ r.2.sem = fun _ => 0) :=
  (θ_run Cert.KernelIdeal.defs _ _).mono (fun _ h => ⟨fun c => (h.1 c 0).trans (Cert.Exchange.finalA_in m ρ c), h.2⟩)
    (Cert.Exchange.run_main m ρ)

/-- the two programs' bodies being one function, by their text, -/
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
theorem defs_same {F : FTy → Type} [FloatOps F] : Cert.Kernel.defs (F := F) = Cert.KernelIdeal.defs (F := F) :=
  congrArg (Pipeline.defs Cert.KernelIdeal.pcfgs) bodies_same

/-- so as stated at bits, -/
theorem frame_kernel : Cert.quiescent_Kernel := fun m ρ _ =>
  (congrArg (fun d => θ_run d (onTc (τ := Cert.KernelIdeal.τ) (Cert.KernelIdeal.main (F := Bits))) ⟨m, fun _ => 0, ρ⟩ _) defs_same).mpr
    (frame_any (F := Bits) m ρ)

/-- and at ideal values. -/
theorem frame_ideal : Cert.quiescent_KernelIdeal := fun m ρ _ => frame_any (F := Ideal) m ρ

/-- The reference ends, its argument unchanged; it has no semaphore. -/
theorem frame_reference : Cert.quiescent_ReferenceIdeal := fun m ρ _ =>
  (θ_run Cert.ReferenceIdeal.defs _ _).mono (fun r h => ⟨h, sem_eq_zero_of_no_sems (by decide) r.2⟩)
    (Cert.Reference.reference_run m ρ)

/-- From the row halves of one array the kernel leaves the column halves of what the reference returns. -/
theorem kernel_computes_reference : Cert.algebraic_KernelIdeal_ReferenceIdeal := by
  intro m ρ m' ρ' _ hm
  refine ⟨m' _, ?_, ?_⟩
  · exact (θ_run Cert.KernelIdeal.defs _ _).mono
      (fun _ h c => ⟨(h.1 c 1).trans ((Cert.Exchange.finalA_out m ρ c).trans
        (Cert.Exchange.outAt_eq (Cert.Exchange.staged m) _ (fun d => (Cert.Exchange.staged_eq m d).trans (hm d)) c)),
        (h.1 c 0).trans (Cert.Exchange.finalA_in m ρ c)⟩)
      (Cert.Exchange.run_main (F := Ideal) m ρ)
  · exact (θ_run Cert.ReferenceIdeal.defs _ _).mono (fun _ h => ⟨h 0, h 0⟩) (Cert.Reference.reference_run m' ρ')

theorem claim : Cert.Claim :=
  ⟨Cert.Kernel.Gen.facts, Cert.KernelIdeal.Gen.facts, Cert.ReferenceIdeal.Gen.facts,
    frame_kernel, frame_ideal, frame_reference, trivial, kernel_computes_reference⟩

end Cert.Proof

end
